-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_none_ignored [hPre_finite_and_none_ignored : Cert.Pre_finite_and_none_ignored.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_none_ignored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_none_ignored [hPre_finite_and_none_ignored : Cert.Pre_finite_and_none_ignored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_none_ignored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_none_ignored [hKernelIdeal : Cert.KernelIdeal.Facts] [hPre_finite_and_none_ignored : Cert.Pre_finite_and_none_ignored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_none_ignored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_none_ignored [hReferenceIdeal : Cert.ReferenceIdeal.Facts] [hPre_finite_and_none_ignored : Cert.Pre_finite_and_none_ignored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_none_ignored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_none_ignored [hKernelIdeal : Cert.KernelIdeal.Facts] [hReferenceIdeal : Cert.ReferenceIdeal.Facts] [hPre_finite_and_none_ignored : Cert.Pre_finite_and_none_ignored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_none_ignored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_none_ignored : Cert.Pre_finite_and_none_ignored.Facts),
    quiescent_Kernel (hKernel := hKernel)
    ∧ quiescent_KernelIdeal (hKernelIdeal := hKernelIdeal)
    ∧ quiescent_KernelIdeal_pre_finite_and_none_ignored (hKernelIdeal := hKernelIdeal) (hPre_finite_and_none_ignored := hPre_finite_and_none_ignored)
    ∧ quiescent_ReferenceIdeal (hReferenceIdeal := hReferenceIdeal)
    ∧ quiescent_ReferenceIdeal_pre_finite_and_none_ignored (hReferenceIdeal := hReferenceIdeal) (hPre_finite_and_none_ignored := hPre_finite_and_none_ignored)
    ∧ preserves_Kernel_KernelIdeal
    ∧ algebraic_KernelIdeal_ReferenceIdeal_pre_finite_and_none_ignored (hKernelIdeal := hKernelIdeal) (hReferenceIdeal := hReferenceIdeal) (hPre_finite_and_none_ignored := hPre_finite_and_none_ignored)
-- ==== Pre_finite_and_none_ignored.lean ====
abbrev S1x19x1024x2048 : Shape := ⟨4, ![1, 19, 1024, 2048]⟩
abbrev S_ : Shape := ⟨0, ![]⟩

class Facts : Prop where
  bcast_S_S1x19x1024x2048 : S_.BroadcastsInDim S1x19x1024x2048 (![] : Fin 0 → Fin S1x19x1024x2048.rank)
  reducesTo_S1x19x1024x2048_S_d0_1_2_3 : S1x19x1024x2048.ReducesTo [0, 1, 2, 3] S_
  h_S_ : 0 < S_.numel

variable [Facts]

def fn {F : FTy → Type} [FloatOps F] (main_arg0 : FVec F S1x19x1024x2048 .f32) (main_arg1 : FVec F S1x19x1024x2048 .f32) : IVec S_ 1 :=
  let main_v0 : FVec F S1x19x1024x2048 .f32 := Host.absf main_arg0
  let main_cst : FVec F S_ .f32 := constant S_ .f32 0x7F800000#32
  let main_v1 : FVec F S1x19x1024x2048 .f32 := broadcastInDim S1x19x1024x2048 ![] bcast_S_S1x19x1024x2048 main_cst
  let main_v2 : IVec S1x19x1024x2048 1 := cmpf .olt main_v0 main_v1
  let main_v3 : FVec F S1x19x1024x2048 .f32 := Host.absf main_arg1
  let main_cst_0 : FVec F S_ .f32 := constant S_ .f32 0x7F800000#32
  let main_v4 : FVec F S1x19x1024x2048 .f32 := broadcastInDim S1x19x1024x2048 ![] bcast_S_S1x19x1024x2048 main_cst_0
  let main_v5 : IVec S1x19x1024x2048 1 := cmpf .olt main_v3 main_v4
  let main_v6 : IVec S1x19x1024x2048 1 := andi main_v2 main_v5
  let main_cst_1 : FVec F S_ .f32 := constant S_ .f32 0xBF800000#32
  let main_v7 : FVec F S1x19x1024x2048 .f32 := broadcastInDim S1x19x1024x2048 ![] bcast_S_S1x19x1024x2048 main_cst_1
  let main_v8 : IVec S1x19x1024x2048 1 := cmpf .une main_arg1 main_v7
  let main_v9 : IVec S1x19x1024x2048 1 := andi main_v6 main_v8
  let main_c : IVec S_ 1 := constantI S_ 1 1#1
  let main_v10 : IVec S_ 1 := (fun x v => Host.reduce IntOp.andi x v reducesTo_S1x19x1024x2048_S_d0_1_2_3 h_S_) main_v9 main_c
  main_v10
-- ==== Kernel.lean ====
abbrev S1x19x1024x2048 : Shape := ⟨4, ![1, 19, 1024, 2048]⟩
abbrev S19x1024x2048 : Shape := ⟨3, ![19, 1024, 2048]⟩
abbrev S1x1 : Shape := ⟨2, ![1, 1]⟩
abbrev S_ : Shape := ⟨0, ![]⟩
abbrev S19x64x2048 : Shape := ⟨3, ![19, 64, 2048]⟩
abbrev S38x8x512 : Shape := ⟨3, ![38, 8, 512]⟩
abbrev S8x512 : Shape := ⟨2, ![8, 512]⟩
abbrev S1x8x512 : Shape := ⟨3, ![1, 8, 512]⟩
abbrev S19x8x512 : Shape := ⟨3, ![19, 8, 512]⟩
abbrev S19 : Shape := ⟨1, ![19]⟩
abbrev S1x19 : Shape := ⟨2, ![1, 19]⟩
abbrev S1 : Shape := ⟨1, ![1]⟩

abbrev nBuf : Space → Nat
  | .hbm => 6
  | .vmem => 6
  | .smem => 0
  | _ => 0

abbrev bufTy : (tb : Table) → Fin (tcTables nBuf tb) → BufTy
  | .hbm, ⟨0, _⟩ => ⟨S1x19x1024x2048, .f32⟩
  | .hbm, ⟨1, _⟩ => ⟨S1x19x1024x2048, .f32⟩
  | .hbm, ⟨2, _⟩ => ⟨S19x1024x2048, .f32⟩
  | .hbm, ⟨3, _⟩ => ⟨S19x1024x2048, .f32⟩
  | .hbm, ⟨4, _⟩ => ⟨S1x1, .f32⟩
  | .hbm, ⟨5, _⟩ => ⟨S_, .f32⟩
  | .local _ .vmem, ⟨0, _⟩ => ⟨S19x64x2048, .f32⟩
  | .local _ .vmem, ⟨1, _⟩ => ⟨S19x64x2048, .f32⟩
  | .local _ .vmem, ⟨2, _⟩ => ⟨S19x64x2048, .f32⟩
  | .local _ .vmem, ⟨3, _⟩ => ⟨S19x64x2048, .f32⟩
  | .local _ .vmem, ⟨4, _⟩ => ⟨S1x1, .f32⟩
  | .local _ .vmem, ⟨5, _⟩ => ⟨S38x8x512, .f32⟩
  | _, _ => ⟨S1x19x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_8716 : BitVec 32 := 15#32
  let v15405 : BitVec 1 := Scalar.cmpi .eq arg0 c15_i32_8716
  let v15406 : BitVec 32 := Scalar.extui v15405
  let c0_i32_8717 : BitVec 32 := 0#32
  let v15407 : BitVec 1 := Scalar.cmpi .ne v15406 c0_i32_8717
  v15407

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S19x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S19x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1x19x1024x2048 : Shape := ⟨4, ![1, 19, 1024, 2048]⟩
abbrev S_ : Shape := ⟨0, ![]⟩
abbrev S1x1024x2048 : Shape := ⟨3, ![1, 1024, 2048]⟩
abbrev S1024x2048 : Shape := ⟨2, ![1024, 2048]⟩
abbrev S2097152 : Shape := ⟨1, ![2097152]⟩
abbrev S19 : Shape := ⟨1, ![19]⟩
abbrev S2097152x1 : Shape := ⟨2, ![2097152, 1]⟩
abbrev S1024x2048x1 : Shape := ⟨3, ![1024, 2048, 1]⟩
abbrev S1x1x1024x2048 : Shape := ⟨4, ![1, 1, 1024, 2048]⟩

abbrev nBuf : Space → Nat
  | .hbm => 83
  | .vmem => 0
  | .smem => 0
  | _ => 0

abbrev bufTy : (tb : Table) → Fin (tcTables nBuf tb) → BufTy
  | .hbm, ⟨0, _⟩ => ⟨S1x19x1024x2048, .f32⟩
  | .hbm, ⟨1, _⟩ => ⟨S1x19x1024x2048, .f32⟩
  | .hbm, ⟨2, _⟩ => ⟨S_, .f32⟩
  | .hbm, ⟨3, _⟩ => ⟨S1x19x1024x2048, .f32⟩
  | .hbm, ⟨4, _⟩ => ⟨S1x19x1024x2048, .i1⟩
  | .hbm, ⟨5, _⟩ => ⟨S1x19x1024x2048, .i32⟩
  | .hbm, ⟨6, _⟩ => ⟨S_, .f32⟩
  | .hbm, ⟨7, _⟩ => ⟨S_, .i32⟩
  | .hbm, ⟨8, _⟩ => ⟨S1x1024x2048, .f32⟩
  | .hbm, ⟨9, _⟩ => ⟨S1x1024x2048, .i32⟩
  | .hbm, ⟨10, _⟩ => ⟨S1024x2048, .i32⟩
  | .hbm, ⟨11, _⟩ => ⟨S2097152, .i32⟩
  | .hbm, ⟨12, _⟩ => ⟨S_, .i32⟩
  | .hbm, ⟨13, _⟩ => ⟨S19, .i32⟩
  | .hbm, ⟨14, _⟩ => ⟨S_, .i32⟩
  | .hbm, ⟨15, _⟩ => ⟨S_, .i32⟩
  | .hbm, ⟨16, _⟩ => ⟨S2097152, .i32⟩
  | .hbm, ⟨17, _⟩ => ⟨S2097152, .i32⟩
  | .hbm, ⟨18, _⟩ => ⟨S_, .i32⟩
  | .hbm, ⟨19, _⟩ => ⟨S2097152, .i32⟩
  | .hbm, ⟨20, _⟩ => ⟨S2097152, .i1⟩
  | .hbm, ⟨21, _⟩ => ⟨S_, .i32⟩
  | .hbm, ⟨22, _⟩ => ⟨S2097152, .i32⟩
  | .hbm, ⟨23, _⟩ => ⟨S2097152, .i32⟩
  | .hbm, ⟨24, _⟩ => ⟨S2097152, .i32⟩
  | .hbm, ⟨25, _⟩ => ⟨S2097152x1, .i32⟩
  | .hbm, ⟨26, _⟩ => ⟨S_, .i32⟩
  | .hbm, ⟨27, _⟩ => ⟨S2097152, .i32⟩
  | .hbm, ⟨28, _⟩ => ⟨S19, .i32⟩
  | .hbm, ⟨29, _⟩ => ⟨S19, .f32⟩
  | .hbm, ⟨30, _⟩ => ⟨S_, .f32⟩
  | .hbm, ⟨31, _⟩ => ⟨S19, .f32⟩
  | .hbm, ⟨32, _⟩ => ⟨S19, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S19, .f32⟩
  | .hbm, ⟨38, _⟩ => ⟨S19, .f32⟩
  | .hbm, ⟨39, _⟩ => ⟨S_, .f32⟩
  | .hbm, ⟨40, _⟩ => ⟨S19, .f32⟩
  | .hbm, ⟨41, _⟩ => ⟨S19, .f32⟩
  | .hbm, ⟨42, _⟩ => ⟨S_, .f32⟩
  | .hbm, ⟨43, _⟩ => ⟨S19, .f32⟩
  | .hbm, ⟨44, _⟩ => ⟨S19, .f32⟩
  | .hbm, ⟨45, _⟩ => ⟨S_, .i32⟩
  | .hbm, ⟨46, _⟩ => ⟨S1024x2048, .i32⟩
  | .hbm, ⟨47, _⟩ => ⟨S1024x2048, .i1⟩
  | .hbm, ⟨48, _⟩ => ⟨S_, .i32⟩
  | .hbm, ⟨49, _⟩ => ⟨S1024x2048, .i32⟩
  | .hbm, ⟨50, _⟩ => ⟨S1024x2048, .i32⟩
  | .hbm, ⟨51, _⟩ => ⟨S1024x2048, .i32⟩
  | .hbm, ⟨52, _⟩ => ⟨S1024x2048x1, .i32⟩
  | .hbm, ⟨53, _⟩ => ⟨S1024x2048, .f32⟩
  | .hbm, ⟨54, _⟩ => ⟨S1x1024x2048, .f32⟩
  | .hbm, ⟨55, _⟩ => ⟨S_, .f32⟩
  | .hbm, ⟨56, _⟩ => ⟨S1x1024x2048, .f32⟩
  | .hbm, ⟨57, _⟩ => ⟨S_, .f32⟩
  | .hbm, ⟨58, _⟩ => ⟨S1x1024x2048, .f32⟩
  | .hbm, ⟨59, _⟩ => ⟨S1x1024x2048, .f32⟩
  | .hbm, ⟨60, _⟩ => ⟨S1x1x1024x2048, .f32⟩
  | .hbm, ⟨61, _⟩ => ⟨S1x19x1024x2048, .f32⟩
  | .hbm, ⟨62, _⟩ => ⟨S1x19x1024x2048, .f32⟩
  | .hbm, ⟨63, _⟩ => ⟨S1x19x1024x2048, .f32⟩
  | .hbm, ⟨64, _⟩ => ⟨S_, .f32⟩
  | .hbm, ⟨65, _⟩ => ⟨S1x1024x2048, .f32⟩
  | .hbm, ⟨66, _⟩ => ⟨S1x1x1024x2048, .f32⟩
  | .hbm, ⟨67, _⟩ => ⟨S1x1x1024x2048, .f32⟩
  | .hbm, ⟨68, _⟩ => ⟨S1x19x1024x2048, .f32⟩
  | .hbm, ⟨69, _⟩ => ⟨S1x19x1024x2048, .f32⟩
  | .hbm, ⟨70, _⟩ => ⟨S1x19x1024x2048, .f32⟩
  | .hbm, ⟨71, _⟩ => ⟨S1x19x1024x2048, .f32⟩
  | .hbm, ⟨72, _⟩ => ⟨S1x1x1024x2048, .f32⟩
  | .hbm, ⟨73, _⟩ => ⟨S1x19x1024x2048, .f32⟩
  | .hbm, ⟨74, _⟩ => ⟨S1x19x1024x2048, .f32⟩
  | .hbm, ⟨75, _⟩ => ⟨S_, .f32⟩
  | .hbm, ⟨76, _⟩ => ⟨S_, .f32⟩
  | .hbm, ⟨77, _⟩ => ⟨S1x19x1024x2048, .f32⟩
  | .hbm, ⟨78, _⟩ => ⟨S1x19x1024x2048, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S1x19x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_c_9 : Ref sig .tc := ⟨.hbm, 45, rfl⟩
abbrev main_v26 : Ref sig .tc := ⟨.hbm, 46, rfl⟩
abbrev main_v27 : Ref sig .tc := ⟨.hbm, 47, rfl⟩
abbrev main_c_10 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call2_cst : Ref sig .tc := ⟨.hbm, 55, rfl⟩
abbrev main_call2_v0 : Ref sig .tc := ⟨.hbm, 56, rfl⟩
abbrev main_call2_cst_0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_cst_1 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_11 : Ref sig .tc := ⟨.hbm, 75, rfl⟩
abbrev main_call3_v0 : Ref sig .tc := ⟨.hbm, 76, rfl⟩
abbrev main_call3_v1 : Ref sig .tc := ⟨.hbm, 77, rfl⟩
abbrev main_v40 : Ref sig .tc := ⟨.hbm, 78, rfl⟩
abbrev main_cst_12 : Ref sig .tc := ⟨.hbm, 79, rfl⟩
abbrev main_v41 : Ref sig .tc := ⟨.hbm, 80, rfl⟩
abbrev main_cst_13 : Ref sig .tc := ⟨.hbm, 81, rfl⟩
abbrev main_v42 : Ref sig .tc := ⟨.hbm, 82, rfl⟩

abbrev nD : Nat := 1
abbrev τ : Topo := Topo.v7x

variable {F : FTy → Type} [FloatOps F]
-- ==== Proof.RefOps.lean ====
/- The reference program's @main as a list of host operations, and the value of its result in named stages. -/
module

public import proofs.«01_k».proof.Proof.Gen.ReferenceIdeal
public import Idealize.ShloMosaic.Lib.StableHlo.Run
public import Idealize.ShloMosaic.Lib.Quiescent
public import Idealize.ShloMosaic.Lib.Pipeline.Regions

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the mask and class map. -/
abbrev seg1 : List (HloOp τ sig (Elt F)) :=
  [ nullary main_cst (constant S_ .f32 0xBF800000#32),
    unary main_cst main_v0 (broadcastInDim S1x19x1024x2048 ![] bcast_S_S1x19x1024x2048 : (⟨S_, .f32⟩ : BufTy).Contents (Elt F) → (⟨S1x19x1024x2048, .f32⟩ : BufTy).Contents (Elt F)),
    binary main_arg1 main_v0 main_v1 (cmpf .une : (⟨S1x19x1024x2048, .f32⟩ : BufTy).Contents (Elt F) → (⟨S1x19x1024x2048, .f32⟩ : BufTy).Contents (Elt F) → (⟨S1x19x1024x2048, .i1⟩ : BufTy).Contents (Elt F)),
    TRef.nullary (TRef.of (T := ⟨S1x19x1024x2048, .i32⟩) main_call0_v0) (iotaInDim S1x19x1024x2048 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1x19x1024x2048, .f32⟩) main_arg0) (TRef.of (T := ⟨S1x19x1024x2048, .i32⟩) main_call0_v0) (TRef.of (T := ⟨S_, .f32⟩) main_call0_cst) (TRef.of (T := ⟨S_, .i32⟩) main_call0_c) (TRef.of (T := ⟨S1x1024x2048, .f32⟩) main_call0_v1_0) (fun x y u v j => (Host.argReduce reducer_argmax_f32_i32 x y u v reducesTo_S1x19x1024x2048_S1x1024x2048_d1 h_S_ j).1),
    TRef.quaternary (TRef.of (T := ⟨S1x19x1024x2048, .f32⟩) main_arg0) (TRef.of (T := ⟨S1x19x1024x2048, .i32⟩) main_call0_v0) (TRef.of (T := ⟨S_, .f32⟩) main_call0_cst) (TRef.of (T := ⟨S_, .i32⟩) main_call0_c) (TRef.of (T := ⟨S1x1024x2048, .i32⟩) main_v2) (fun x y u v j => (Host.argReduce reducer_argmax_f32_i32 x y u v reducesTo_S1x19x1024x2048_S1x1024x2048_d1 h_S_ j).2),
    reshape main_v2 main_v3 (rfl : (.i32 : EltTy) = .i32) shapeCasts_S1x1024x2048_S1024x2048 ]
/-- The operations of the histogram. -/
abbrev seg2 : List (HloOp τ sig (Elt F)) :=
  [ reshape main_v3 main_v4 (rfl : (.i32 : EltTy) = .i32) shapeCasts_S1024x2048_S2097152,
    nullary main_c (constantI S_ 32 0#32),
    unary main_c main_v5 (broadcastInDim S19 ![] bcast_S_S19 : (⟨S_, .i32⟩ : BufTy).Contents (Elt F) → (⟨S19, .i32⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S2097152, .i32⟩) main_call1_v1) (broadcastInDim S2097152 ![] bcast_S_S2097152),
    TRef.binary (TRef.of (T := ⟨S2097152, .i32⟩) main_call1_v1) (TRef.of (T := ⟨S2097152, .i32⟩) main_v4) (TRef.of (T := ⟨S2097152, .i32⟩) main_v6) maxsi,
    nullary main_c_1 (constantI S_ 32 0#32),
    unary main_c_1 main_v7 (broadcastInDim S2097152 ![] bcast_S_S2097152 : (⟨S_, .i32⟩ : BufTy).Contents (Elt F) → (⟨S2097152, .i32⟩ : BufTy).Contents (Elt F)),
    binary main_v6 main_v7 main_v8 (cmpi .slt : (⟨S2097152, .i32⟩ : BufTy).Contents (Elt F) → (⟨S2097152, .i32⟩ : BufTy).Contents (Elt F) → (⟨S2097152, .i1⟩ : BufTy).Contents (Elt F)),
    nullary main_c_2 (constantI S_ 32 19#32),
    unary main_c_2 main_v9 (broadcastInDim S2097152 ![] bcast_S_S2097152 : (⟨S_, .i32⟩ : BufTy).Contents (Elt F) → (⟨S2097152, .i32⟩ : BufTy).Contents (Elt F)),
    binary main_v6 main_v9 main_v10 (addi : (⟨S2097152, .i32⟩ : BufTy).Contents (Elt F) → (⟨S2097152, .i32⟩ : BufTy).Contents (Elt F) → (⟨S2097152, .i32⟩ : BufTy).Contents (Elt F)),
    ternary main_v8 main_v10 main_v6 main_v11 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v11 main_v12 (broadcastInDim S2097152x1 ![0] bcast_S2097152_S2097152x1_0 : (⟨S2097152, .i32⟩ : BufTy).Contents (Elt F) → (⟨S2097152x1, .i32⟩ : BufTy).Contents (Elt F)),
    nullary main_c_3 (constantI S_ 32 1#32),
    unary main_c_3 main_v13 (broadcastInDim S2097152 ![] bcast_S_S2097152 : (⟨S_, .i32⟩ : BufTy).Contents (Elt F) → (⟨S2097152, .i32⟩ : BufTy).Contents (Elt F)),
    ternary main_v5 main_v12 main_v13 main_v14 ((fun x i u => Host.scatter scatter_S19_S2097152x1_S2097152_n_0_0_1 IntOp.addi x i u) : (⟨S19, .i32⟩ : BufTy).Contents (Elt F) → (⟨S2097152x1, .i32⟩ : BufTy).Contents (Elt F) → (⟨S2097152, .i32⟩ : BufTy).Contents (Elt F) → (⟨S19, .i32⟩ : BufTy).Contents (Elt F)),
    unary main_v14 main_v15 (sitofp .f32 : (⟨S19, .i32⟩ : BufTy).Contents (Elt F) → (⟨S19, .f32⟩ : BufTy).Contents (Elt F)) ]
/-- The operations of the class weights. -/
abbrev seg3 : List (HloOp τ sig (Elt F)) :=
  [ nullary main_cst_4 (constant S_ .f32 0x3E4CCCCD#32),
    unary main_cst_4 main_v16 (broadcastInDim S19 ![] bcast_S_S19 : (⟨S_, .f32⟩ : BufTy).Contents (Elt F) → (⟨S19, .f32⟩ : BufTy).Contents (Elt F)),
    binary main_v15 main_v16 main_v17 (Host.powf : (⟨S19, .f32⟩ : BufTy).Contents (Elt F) → (⟨S19, .f32⟩ : BufTy).Contents (Elt F) → (⟨S19, .f32⟩ : BufTy).Contents (Elt F)),
    nullary main_cst_5 (constant S_ .f32 0x00000000#32),
    binary main_v15 main_cst_5 main_v18 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    nullary main_cst_6 (constant S_ .f32 0x3F4CCCCD#32),
    binary main_v18 main_cst_6 main_v19 (Host.powf : (⟨S_, .f32⟩ : BufTy).Contents (Elt F) → (⟨S_, .f32⟩ : BufTy).Contents (Elt F) → (⟨S_, .f32⟩ : BufTy).Contents (Elt F)),
    unary main_v19 main_v20 (broadcastInDim S19 ![] bcast_S_S19 : (⟨S_, .f32⟩ : BufTy).Contents (Elt F) → (⟨S19, .f32⟩ : BufTy).Contents (Elt F)),
    binary main_v17 main_v20 main_v21 (mulf : (⟨S19, .f32⟩ : BufTy).Contents (Elt F) → (⟨S19, .f32⟩ : BufTy).Contents (Elt F) → (⟨S19, .f32⟩ : BufTy).Contents (Elt F)),
    nullary main_cst_7 (constant S_ .f32 0x3F800000#32),
    unary main_cst_7 main_v22 (broadcastInDim S19 ![] bcast_S_S19 : (⟨S_, .f32⟩ : BufTy).Contents (Elt F) → (⟨S19, .f32⟩ : BufTy).Contents (Elt F)),
    binary main_v21 main_v22 main_v23 (maximumf : (⟨S19, .f32⟩ : BufTy).Contents (Elt F) → (⟨S19, .f32⟩ : BufTy).Contents (Elt F) → (⟨S19, .f32⟩ : BufTy).Contents (Elt F)),
    nullary main_cst_8 (constant S_ .f32 0x3F800000#32),
    unary main_cst_8 main_v24 (broadcastInDim S19 ![] bcast_S_S19 : (⟨S_, .f32⟩ : BufTy).Contents (Elt F) → (⟨S19, .f32⟩ : BufTy).Contents (Elt F)),
    binary main_v24 main_v23 main_v25 (Host.divf : (⟨S19, .f32⟩ : BufTy).Contents (Elt F) → (⟨S19, .f32⟩ : BufTy).Contents (Elt F) → (⟨S19, .f32⟩ : BufTy).Contents (Elt F)) ]
/-- The operations of the weight map. -/
abbrev seg4 : List (HloOp τ sig (Elt F)) :=
  [ nullary main_c_9 (constantI S_ 32 0#32),
    unary main_c_9 main_v26 (broadcastInDim S1024x2048 ![] bcast_S_S1024x2048 : (⟨S_, .i32⟩ : BufTy).Contents (Elt F) → (⟨S1024x2048, .i32⟩ : BufTy).Contents (Elt F)),
    binary main_v3 main_v26 main_v27 (cmpi .slt : (⟨S1024x2048, .i32⟩ : BufTy).Contents (Elt F) → (⟨S1024x2048, .i32⟩ : BufTy).Contents (Elt F) → (⟨S1024x2048, .i1⟩ : BufTy).Contents (Elt F)),
    nullary main_c_10 (constantI S_ 32 19#32),
    unary main_c_10 main_v28 (broadcastInDim S1024x2048 ![] bcast_S_S1024x2048 : (⟨S_, .i32⟩ : BufTy).Contents (Elt F) → (⟨S1024x2048, .i32⟩ : BufTy).Contents (Elt F)),
    binary main_v3 main_v28 main_v29 (addi : (⟨S1024x2048, .i32⟩ : BufTy).Contents (Elt F) → (⟨S1024x2048, .i32⟩ : BufTy).Contents (Elt F) → (⟨S1024x2048, .i32⟩ : BufTy).Contents (Elt F)),
    ternary main_v27 main_v29 main_v3 main_v30 (select : (⟨S1024x2048, .i1⟩ : BufTy).Contents (Elt F) → (⟨S1024x2048, .i32⟩ : BufTy).Contents (Elt F) → (⟨S1024x2048, .i32⟩ : BufTy).Contents (Elt F) → (⟨S1024x2048, .i32⟩ : BufTy).Contents (Elt F)),
    unary main_v30 main_v31 (broadcastInDim S1024x2048x1 ![0, 1] bcast_S1024x2048_S1024x2048x1_0_1 : (⟨S1024x2048, .i32⟩ : BufTy).Contents (Elt F) → (⟨S1024x2048x1, .i32⟩ : BufTy).Contents (Elt F)),
    binary main_v25 main_v31 main_v32 ((fun x i => Host.gather gather_S19_S1024x2048x1_S1024x2048_n_0_n_n_0_2_1 x i) : (⟨S19, .f32⟩ : BufTy).Contents (Elt F) → (⟨S1024x2048x1, .i32⟩ : BufTy).Contents (Elt F) → (⟨S1024x2048, .f32⟩ : BufTy).Contents (Elt F)),
    unary main_v32 main_v33 (broadcastInDim S1x1024x2048 ![1, 2] bcast_S1024x2048_S1x1024x2048_1_2 : (⟨S1024x2048, .f32⟩ : BufTy).Contents (Elt F) → (⟨S1x1024x2048, .f32⟩ : BufTy).Contents (Elt F)) ]
/-- The operations of the log softmax. -/
abbrev seg5 : List (HloOp τ sig (Elt F)) :=
  [ TRef.nullary (TRef.of (T := ⟨S_, .f32⟩) main_call2_cst) (constant S_ .f32 0xFF800000#32),
    TRef.binary (TRef.of (T := ⟨S1x19x1024x2048, .f32⟩) main_arg0) (TRef.of (T := ⟨S_, .f32⟩) main_call2_cst) (TRef.of (T := ⟨S1x1024x2048, .f32⟩) main_call2_v0) (fun x v => Host.reduce FloatOps.maximumf x v reducesTo_S1x19x1024x2048_S1x1024x2048_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S1x1024x2048, .f32⟩) main_call2_v1) (broadcastInDim S1x1024x2048 ![] bcast_S_S1x1024x2048),
    TRef.binary (TRef.of (T := ⟨S1x1024x2048, .f32⟩) main_call2_v1) (TRef.of (T := ⟨S1x1024x2048, .f32⟩) main_call2_v0) (TRef.of (T := ⟨S1x1024x2048, .f32⟩) main_call2_v2) maximumf,
    TRef.unary (TRef.of (T := ⟨S1x1024x2048, .f32⟩) main_call2_v2) (TRef.of (T := ⟨S1x1x1024x2048, .f32⟩) main_call2_v3) (broadcastInDim S1x1x1024x2048 ![0, 2, 3] bcast_S1x1024x2048_S1x1x1024x2048_0_2_3),
    TRef.unary (TRef.of (T := ⟨S1x1x1024x2048, .f32⟩) main_call2_v3) (TRef.of (T := ⟨S1x19x1024x2048, .f32⟩) main_call2_v4) (broadcastInDim S1x19x1024x2048 ![0, 1, 2, 3] bcast_S1x1x1024x2048_S1x19x1024x2048_0_1_2_3),
    TRef.binary (TRef.of (T := ⟨S1x19x1024x2048, .f32⟩) main_arg0) (TRef.of (T := ⟨S1x19x1024x2048, .f32⟩) main_call2_v4) (TRef.of (T := ⟨S1x19x1024x2048, .f32⟩) main_call2_v5) subf,
    TRef.unary (TRef.of (T := ⟨S1x19x1024x2048, .f32⟩) main_call2_v5) (TRef.of (T := ⟨S1x19x1024x2048, .f32⟩) main_call2_v6) Host.exp,
    TRef.nullary (TRef.of (T := ⟨S_, .f32⟩) main_call2_cst_1) (constant S_ .f32 0x00000000#32),
    TRef.binary (TRef.of (T := ⟨S1x19x1024x2048, .f32⟩) main_call2_v6) (TRef.of (T := ⟨S_, .f32⟩) main_call2_cst_1) (TRef.of (T := ⟨S1x1024x2048, .f32⟩) main_call2_v7) (fun x v => Host.reduceAdd x v reducesTo_S1x19x1024x2048_S1x1024x2048_d1 h_S_),
    TRef.unary (TRef.of (T := ⟨S1x1024x2048, .f32⟩) main_call2_v7) (TRef.of (T := ⟨S1x1x1024x2048, .f32⟩) main_call2_v8) (broadcastInDim S1x1x1024x2048 ![0, 2, 3] bcast_S1x1024x2048_S1x1x1024x2048_0_2_3),
    TRef.unary (TRef.of (T := ⟨S1x1x1024x2048, .f32⟩) main_call2_v8) (TRef.of (T := ⟨S1x1x1024x2048, .f32⟩) main_call2_v9) Host.log,
    TRef.unary (TRef.of (T := ⟨S1x1x1024x2048, .f32⟩) main_call2_v9) (TRef.of (T := ⟨S1x19x1024x2048, .f32⟩) main_call2_v10) (broadcastInDim S1x19x1024x2048 ![0, 1, 2, 3] bcast_S1x1x1024x2048_S1x19x1024x2048_0_1_2_3),
    TRef.binary (TRef.of (T := ⟨S1x19x1024x2048, .f32⟩) main_call2_v5) (TRef.of (T := ⟨S1x19x1024x2048, .f32⟩) main_call2_v10) (TRef.of (T := ⟨S1x19x1024x2048, .f32⟩) main_v34) subf ]
/-- The operations of the weighted mean. -/
abbrev seg6 : List (HloOp τ sig (Elt F)) :=
  [ unary main_v34 main_v35 (Host.negf : (⟨S1x19x1024x2048, .f32⟩ : BufTy).Contents (Elt F) → (⟨S1x19x1024x2048, .f32⟩ : BufTy).Contents (Elt F)),
    binary main_v35 main_arg1 main_v36 (mulf : (⟨S1x19x1024x2048, .f32⟩ : BufTy).Contents (Elt F) → (⟨S1x19x1024x2048, .f32⟩ : BufTy).Contents (Elt F) → (⟨S1x19x1024x2048, .f32⟩ : BufTy).Contents (Elt F)),
    unary main_v33 main_v37 (broadcastInDim S1x1x1024x2048 ![1, 2, 3] bcast_S1x1024x2048_S1x1x1024x2048_1_2_3 : (⟨S1x1024x2048, .f32⟩ : BufTy).Contents (Elt F) → (⟨S1x1x1024x2048, .f32⟩ : BufTy).Contents (Elt F)),
    unary main_v37 main_v38 (broadcastInDim S1x19x1024x2048 ![0, 1, 2, 3] bcast_S1x1x1024x2048_S1x19x1024x2048_0_1_2_3 : (⟨S1x1x1024x2048, .f32⟩ : BufTy).Contents (Elt F) → (⟨S1x19x1024x2048, .f32⟩ : BufTy).Contents (Elt F)),
    binary main_v36 main_v38 main_v39 (mulf : (⟨S1x19x1024x2048, .f32⟩ : BufTy).Contents (Elt F) → (⟨S1x19x1024x2048, .f32⟩ : BufTy).Contents (Elt F) → (⟨S1x19x1024x2048, .f32⟩ : BufTy).Contents (Elt F)),
    nullary main_cst_11 (constant S_ .f32 0x00000000#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S1x19x1024x2048, .f32⟩) main_call3_v1) (broadcastInDim S1x19x1024x2048 ![] bcast_S_S1x19x1024x2048),
    TRef.ternary (TRef.of (T := ⟨S1x19x1024x2048, .i1⟩) main_v1) (TRef.of (T := ⟨S1x19x1024x2048, .f32⟩) main_v39) (TRef.of (T := ⟨S1x19x1024x2048, .f32⟩) main_call3_v1) (TRef.of (T := ⟨S1x19x1024x2048, .f32⟩) main_v40) select,
    nullary main_cst_12 (constant S_ .f32 0x00000000#32),
    binary main_v40 main_cst_12 main_v41 ((fun x v => Host.reduceAdd x v reducesTo_S1x19x1024x2048_S_d0_1_2_3 h_S_) : (⟨S1x19x1024x2048, .f32⟩ : BufTy).Contents (Elt F) → (⟨S_, .f32⟩ : BufTy).Contents (Elt F) → (⟨S_, .f32⟩ : BufTy).Contents (Elt F)),
    nullary main_cst_13 (constant S_ .f32 0x41980000#32),
    binary main_v41 main_cst_13 main_v42 (Host.divf : (⟨S_, .f32⟩ : BufTy).Contents (Elt F) → (⟨S_, .f32⟩ : BufTy).Contents (Elt F) → (⟨S_, .f32⟩ : BufTy).Contents (Elt F)) ]
/-- The host operations of @main in order, each call's body in its place. -/
abbrev ops : List (HloOp τ sig (Elt F)) := seg1 ++ (seg2 ++ (seg3 ++ (seg4 ++ (seg5 ++ seg6))))

set_option maxRecDepth 8192 in
set_option maxHeartbeats 4000000 in
/-- @main is the sequence of these operations. -/
theorem main_eq (c : Dev nD) : main (F := F) c = seq ops := rfl
/-- The reference has no scoped arrays. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide
set_option maxRecDepth 8192 in
/-- Every operation's buffers are the TensorCore's. -/
theorem ops_sub : (ops : List (HloOp τ sig (Elt F))).Forall fun op => op.bufs ⊆ tcRefs τ sig :=
  ⟨nullary_bufs_sub .., unary_bufs_sub .., binary_bufs_sub .., nullary_bufs_sub .., nullary_bufs_sub .., nullary_bufs_sub .., quaternary_bufs_sub ..,
    quaternary_bufs_sub .., reshape_bufs_sub .., reshape_bufs_sub .., nullary_bufs_sub .., unary_bufs_sub .., nullary_bufs_sub .., unary_bufs_sub ..,
    unary_bufs_sub .., binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub .., unary_bufs_sub ..,
    nullary_bufs_sub .., unary_bufs_sub .., binary_bufs_sub .., nullary_bufs_sub .., binary_bufs_sub .., nullary_bufs_sub .., binary_bufs_sub ..,
    unary_bufs_sub .., binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., binary_bufs_sub .., nullary_bufs_sub ..,
    unary_bufs_sub .., binary_bufs_sub .., unary_bufs_sub .., unary_bufs_sub .., binary_bufs_sub .., unary_bufs_sub .., nullary_bufs_sub ..,
    binary_bufs_sub .., unary_bufs_sub .., unary_bufs_sub .., unary_bufs_sub .., binary_bufs_sub .., unary_bufs_sub .., binary_bufs_sub ..,
    unary_bufs_sub .., unary_bufs_sub .., binary_bufs_sub .., nullary_bufs_sub .., unary_bufs_sub .., unary_bufs_sub .., ternary_bufs_sub ..,
    nullary_bufs_sub .., binary_bufs_sub .., nullary_bufs_sub .., binary_bufs_sub ..⟩

/-! ### The result in stages -/

/-- The class of the largest logit, per pixel. -/
def rArg (X : FVec F S1x19x1024x2048 .f32) : IVec S1x1024x2048 32 := fun j =>
  (Host.argReduce reducer_argmax_f32_i32 X (iotaInDim S1x19x1024x2048 32 1) (constant S_ .f32 0xFF800000#32) (constantI S_ 32 0#32)
    reducesTo_S1x19x1024x2048_S1x1024x2048_d1 h_S_ j).2
/-- The class map, (1024, 2048). -/
def rArg2 (X : FVec F S1x19x1024x2048 .f32) : IVec S1024x2048 32 :=
  shapeCast S1024x2048 (rArg X) shapeCasts_S1x1024x2048_S1024x2048
/-- The class list that the histogram counts, after the clip and the wrap of negative indices. -/
def rBins (A : IVec S1024x2048 32) : IVec S2097152 32 :=
  let b := maxsi (broadcastInDim S2097152 ![] bcast_S_S2097152 (constantI S_ 32 0#32)) (shapeCast S2097152 A shapeCasts_S1024x2048_S2097152)
  select (cmpi .slt b (broadcastInDim S2097152 ![] bcast_S_S2097152 (constantI S_ 32 0#32)))
    (addi b (broadcastInDim S2097152 ![] bcast_S_S2097152 (constantI S_ 32 19#32))) b
/-- The histogram. -/
def rHist (b : IVec S2097152 32) : IVec S19 32 :=
  Host.scatter scatter_S19_S2097152x1_S2097152_n_0_0_1 IntOp.addi (broadcastInDim S19 ![] bcast_S_S19 (constantI S_ 32 0#32))
    (broadcastInDim S2097152x1 ![0] bcast_S2097152_S2097152x1_0 b) (broadcastInDim S2097152 ![] bcast_S_S2097152 (constantI S_ 32 1#32))
/-- The class weights from the histogram as floats. -/
def rW (h : FVec F S19 .f32) : FVec F S19 .f32 :=
  Host.divf (broadcastInDim S19 ![] bcast_S_S19 (constant S_ .f32 0x3F800000#32))
    (maximumf
      (mulf (Host.powf h (broadcastInDim S19 ![] bcast_S_S19 (constant S_ .f32 0x3E4CCCCD#32)))
        (broadcastInDim S19 ![] bcast_S_S19
          (Host.powf (Host.reduceAdd h (constant S_ .f32 0x00000000#32) reducesTo_S19_S_d0 h_S_) (constant S_ .f32 0x3F4CCCCD#32))))
      (broadcastInDim S19 ![] bcast_S_S19 (constant S_ .f32 0x3F800000#32)))
/-- The weight map: each pixel's class weight. -/
def rWmap (W : FVec F S19 .f32) (A : IVec S1024x2048 32) : FVec F S1024x2048 .f32 :=
  Host.gather gather_S19_S1024x2048x1_S1024x2048_n_0_n_n_0_2_1 W
    (broadcastInDim S1024x2048x1 ![0, 1] bcast_S1024x2048_S1024x2048x1_0_1
      (select (cmpi .slt A (broadcastInDim S1024x2048 ![] bcast_S_S1024x2048 (constantI S_ 32 0#32)))
        (addi A (broadcastInDim S1024x2048 ![] bcast_S_S1024x2048 (constantI S_ 32 19#32))) A))
/-- A per-pixel array at every class. -/
def rSpread (x : FVec F S1x1024x2048 .f32) : FVec F S1x1x1024x2048 .f32 :=
  broadcastInDim S1x1x1024x2048 ![0, 2, 3] bcast_S1x1024x2048_S1x1x1024x2048_0_2_3 x
/-- The logits less their largest. -/
def rShift (X : FVec F S1x19x1024x2048 .f32) : FVec F S1x19x1024x2048 .f32 :=
  subf X (broadcastInDim S1x19x1024x2048 ![0, 1, 2, 3] bcast_S1x1x1024x2048_S1x19x1024x2048_0_1_2_3
    (rSpread (maximumf (broadcastInDim S1x1024x2048 ![] bcast_S_S1x1024x2048 (constant S_ .f32 0xFF800000#32))
      (Host.reduce FloatOps.maximumf X (constant S_ .f32 0xFF800000#32) reducesTo_S1x19x1024x2048_S1x1024x2048_d1 h_S_))))
/-- The log softmax over the classes. -/
def rLS (X : FVec F S1x19x1024x2048 .f32) : FVec F S1x19x1024x2048 .f32 :=
  subf (rShift X) (broadcastInDim S1x19x1024x2048 ![0, 1, 2, 3] bcast_S1x1x1024x2048_S1x19x1024x2048_0_1_2_3
    (Host.log (rSpread (Host.reduceAdd (Host.exp (rShift X)) (constant S_ .f32 0x00000000#32) reducesTo_S1x19x1024x2048_S1x1024x2048_d1 h_S_))))
/-- The mask: where the target is not the ignored value. -/
def rMask (T : FVec F S1x19x1024x2048 .f32) : IVec S1x19x1024x2048 1 :=
  cmpf .une T (broadcastInDim S1x19x1024x2048 ![] bcast_S_S1x19x1024x2048 (constant S_ .f32 0xBF800000#32))
/-- The weighted terms, zero off the mask. -/
def rTerms (K : IVec S1x19x1024x2048 1) (L T : FVec F S1x19x1024x2048 .f32) (M : FVec F S1x1024x2048 .f32) : FVec F S1x19x1024x2048 .f32 :=
  select K
    (mulf (mulf (Host.negf L) T)
      (broadcastInDim S1x19x1024x2048 ![0, 1, 2, 3] bcast_S1x1x1024x2048_S1x19x1024x2048_0_1_2_3
        (broadcastInDim S1x1x1024x2048 ![1, 2, 3] bcast_S1x1024x2048_S1x1x1024x2048_1_2_3 M)))
    (broadcastInDim S1x19x1024x2048 ![] bcast_S_S1x19x1024x2048 (constant S_ .f32 0x00000000#32))
/-- The terms' sum over 19. -/
def rMean (Z : FVec F S1x19x1024x2048 .f32) : FVec F S_ .f32 :=
  Host.divf (Host.reduceAdd Z (constant S_ .f32 0x00000000#32) reducesTo_S1x19x1024x2048_S_d0_1_2_3 h_S_) (constant S_ .f32 0x41980000#32)
/-- The weight map with its leading axis. -/
def rWmap1 (W : FVec F S19 .f32) (A : IVec S1024x2048 32) : FVec F S1x1024x2048 .f32 :=
  broadcastInDim S1x1024x2048 ![1, 2] bcast_S1024x2048_S1x1024x2048_1_2 (rWmap W A)
/-- The loss. -/
def rOut (X T : FVec F S1x19x1024x2048 .f32) : FVec F S_ .f32 :=
  rMean (rTerms (rMask T) (rLS X) T (rWmap1 (rW (sitofp .f32 (rHist (rBins (rArg2 X))))) (rArg2 X)))

end Cert.ReferenceIdeal.Hand

end
-- ==== Proof.RefRun.lean ====
/- What each stretch of the reference's operations leaves, the run with its result at `rOut`, and the frame. -/
module
public import proofs.«01_k».proof.Proof.RefOps
@[expose] public section
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

/-! ### What each stretch of operations leaves -/

section
variable (V : Valuation τ sig (Elt F))

/-- Stretch 1 computes the mask. -/
theorem seg1_v1 : after seg1 V (Proc.devRef .tc main_v1) = rMask (V (Proc.devRef .tc main_arg1)) := by
  simp only [seg1, TRef.binary, TRef.nullary, TRef.ternary, TRef.unary, TRef.quaternary, TRef.toBuf, TRef.ofBuf, cast_eq]
  after_results_simp <;> rfl
/-- Stretch 1 computes the classes. -/
theorem seg1_v3 : after seg1 V (Proc.devRef .tc main_v3) = rArg2 (V (Proc.devRef .tc main_arg0)) := by
  simp only [seg1]
  after_results
  unfold rArg2
  refine congrArg (fun z => shapeCast S1024x2048 z shapeCasts_S1x1024x2048_S1024x2048) ?_
  chain_rfl
/-- Stretch 2 computes the class counts. -/
theorem seg2_v15 : after seg2 V (Proc.devRef .tc main_v15) = sitofp .f32 (rHist (rBins (V (Proc.devRef .tc main_v3)))) := by
  simp only [seg2, TRef.binary, TRef.nullary, TRef.ternary, TRef.unary, TRef.quaternary, TRef.toBuf, TRef.ofBuf, cast_eq]
  after_results_simp <;> rfl
/-- Stretch 3 computes the class weights. -/
theorem seg3_v25 : after seg3 V (Proc.devRef .tc main_v25) = rW (V (Proc.devRef .tc main_v15)) := by
  simp only [seg3, TRef.binary, TRef.nullary, TRef.ternary, TRef.unary, TRef.quaternary, TRef.toBuf, TRef.ofBuf, cast_eq]
  after_results_simp <;> rfl
/-- Stretch 4 computes the pixel weights. -/
theorem seg4_v33 : after seg4 V (Proc.devRef .tc main_v33) = rWmap1 (V (Proc.devRef .tc main_v25)) (V (Proc.devRef .tc main_v3)) := by
  simp only [seg4, TRef.binary, TRef.nullary, TRef.ternary, TRef.unary, TRef.quaternary, TRef.toBuf, TRef.ofBuf, cast_eq]
  after_results_simp <;> rfl
/-- Stretch 5 computes the log-softmax. -/
theorem seg5_v34 : after seg5 V (Proc.devRef .tc main_v34) = rLS (V (Proc.devRef .tc main_arg0)) := by
  simp only [seg5, TRef.binary, TRef.nullary, TRef.ternary, TRef.unary, TRef.quaternary, TRef.toBuf, TRef.ofBuf, cast_eq]
  after_results_simp <;> rfl
/-- Stretch 6 computes the loss. -/
theorem seg6_v42 : after seg6 V (Proc.devRef .tc main_v42) = rMean (rTerms (V (Proc.devRef .tc main_v1)) (V (Proc.devRef .tc main_v34)) (V (Proc.devRef .tc main_arg1)) (V (Proc.devRef .tc main_v33))) := by
  simp only [seg6, TRef.binary, TRef.nullary, TRef.ternary, TRef.unary, TRef.quaternary, TRef.toBuf, TRef.ofBuf, cast_eq]
  after_results_simp <;> rfl
/-- Stretch 1 leaves the scores alone. -/
theorem seg1_keeps_arg0 : after seg1 V (Proc.devRef .tc main_arg0) = V (Proc.devRef .tc main_arg0) := by
  simp only [seg1, TRef.binary, TRef.nullary, TRef.ternary, TRef.unary, TRef.quaternary, TRef.toBuf, TRef.ofBuf, cast_eq]
  after_results_simp <;> rfl
/-- Stretch 1 leaves the targets alone. -/
theorem seg1_keeps_arg1 : after seg1 V (Proc.devRef .tc main_arg1) = V (Proc.devRef .tc main_arg1) := by
  simp only [seg1, TRef.binary, TRef.nullary, TRef.ternary, TRef.unary, TRef.quaternary, TRef.toBuf, TRef.ofBuf, cast_eq]
  after_results_simp <;> rfl
/-- Stretch 2 leaves the mask alone. -/
theorem seg2_keeps_v1 : after seg2 V (Proc.devRef .tc main_v1) = V (Proc.devRef .tc main_v1) := by
  simp only [seg2, TRef.binary, TRef.nullary, TRef.ternary, TRef.unary, TRef.quaternary, TRef.toBuf, TRef.ofBuf, cast_eq]
  after_results_simp <;> rfl
/-- Stretch 2 leaves the classes alone. -/
theorem seg2_keeps_v3 : after seg2 V (Proc.devRef .tc main_v3) = V (Proc.devRef .tc main_v3) := by
  simp only [seg2, TRef.binary, TRef.nullary, TRef.ternary, TRef.unary, TRef.quaternary, TRef.toBuf, TRef.ofBuf, cast_eq]
  after_results_simp <;> rfl
/-- Stretch 2 leaves the scores alone. -/
theorem seg2_keeps_arg0 : after seg2 V (Proc.devRef .tc main_arg0) = V (Proc.devRef .tc main_arg0) := by
  simp only [seg2, TRef.binary, TRef.nullary, TRef.ternary, TRef.unary, TRef.quaternary, TRef.toBuf, TRef.ofBuf, cast_eq]
  after_results_simp <;> rfl
/-- Stretch 2 leaves the targets alone. -/
theorem seg2_keeps_arg1 : after seg2 V (Proc.devRef .tc main_arg1) = V (Proc.devRef .tc main_arg1) := by
  simp only [seg2, TRef.binary, TRef.nullary, TRef.ternary, TRef.unary, TRef.quaternary, TRef.toBuf, TRef.ofBuf, cast_eq]
  after_results_simp <;> rfl
/-- Stretch 3 leaves the mask alone. -/
theorem seg3_keeps_v1 : after seg3 V (Proc.devRef .tc main_v1) = V (Proc.devRef .tc main_v1) := by
  simp only [seg3, TRef.binary, TRef.nullary, TRef.ternary, TRef.unary, TRef.quaternary, TRef.toBuf, TRef.ofBuf, cast_eq]
  after_results_simp <;> rfl
/-- Stretch 3 leaves the classes alone. -/
theorem seg3_keeps_v3 : after seg3 V (Proc.devRef .tc main_v3) = V (Proc.devRef .tc main_v3) := by
  simp only [seg3, TRef.binary, TRef.nullary, TRef.ternary, TRef.unary, TRef.quaternary, TRef.toBuf, TRef.ofBuf, cast_eq]
  after_results_simp <;> rfl
/-- Stretch 3 leaves the scores alone. -/
theorem seg3_keeps_arg0 : after seg3 V (Proc.devRef .tc main_arg0) = V (Proc.devRef .tc main_arg0) := by
  simp only [seg3, TRef.binary, TRef.nullary, TRef.ternary, TRef.unary, TRef.quaternary, TRef.toBuf, TRef.ofBuf, cast_eq]
  after_results_simp <;> rfl
/-- Stretch 3 leaves the targets alone. -/
theorem seg3_keeps_arg1 : after seg3 V (Proc.devRef .tc main_arg1) = V (Proc.devRef .tc main_arg1) := by
  simp only [seg3, TRef.binary, TRef.nullary, TRef.ternary, TRef.unary, TRef.quaternary, TRef.toBuf, TRef.ofBuf, cast_eq]
  after_results_simp <;> rfl
/-- Stretch 4 leaves the mask alone. -/
theorem seg4_keeps_v1 : after seg4 V (Proc.devRef .tc main_v1) = V (Proc.devRef .tc main_v1) := by
  simp only [seg4, TRef.binary, TRef.nullary, TRef.ternary, TRef.unary, TRef.quaternary, TRef.toBuf, TRef.ofBuf, cast_eq]
  after_results_simp <;> rfl
/-- Stretch 4 leaves the scores alone. -/
theorem seg4_keeps_arg0 : after seg4 V (Proc.devRef .tc main_arg0) = V (Proc.devRef .tc main_arg0) := by
  simp only [seg4, TRef.binary, TRef.nullary, TRef.ternary, TRef.unary, TRef.quaternary, TRef.toBuf, TRef.ofBuf, cast_eq]
  after_results_simp <;> rfl
/-- Stretch 4 leaves the targets alone. -/
theorem seg4_keeps_arg1 : after seg4 V (Proc.devRef .tc main_arg1) = V (Proc.devRef .tc main_arg1) := by
  simp only [seg4, TRef.binary, TRef.nullary, TRef.ternary, TRef.unary, TRef.quaternary, TRef.toBuf, TRef.ofBuf, cast_eq]
  after_results_simp <;> rfl
/-- Stretch 5 leaves the mask alone. -/
theorem seg5_keeps_v1 : after seg5 V (Proc.devRef .tc main_v1) = V (Proc.devRef .tc main_v1) := by
  simp only [seg5, TRef.binary, TRef.nullary, TRef.ternary, TRef.unary, TRef.quaternary, TRef.toBuf, TRef.ofBuf, cast_eq]
  after_results_simp <;> rfl
/-- Stretch 5 leaves the pixel weights alone. -/
theorem seg5_keeps_v33 : after seg5 V (Proc.devRef .tc main_v33) = V (Proc.devRef .tc main_v33) := by
  simp only [seg5, TRef.binary, TRef.nullary, TRef.ternary, TRef.unary, TRef.quaternary, TRef.toBuf, TRef.ofBuf, cast_eq]
  after_results_simp <;> rfl
/-- Stretch 5 leaves the scores alone. -/
theorem seg5_keeps_arg0 : after seg5 V (Proc.devRef .tc main_arg0) = V (Proc.devRef .tc main_arg0) := by
  simp only [seg5, TRef.binary, TRef.nullary, TRef.ternary, TRef.unary, TRef.quaternary, TRef.toBuf, TRef.ofBuf, cast_eq]
  after_results_simp <;> rfl
/-- Stretch 5 leaves the targets alone. -/
theorem seg5_keeps_arg1 : after seg5 V (Proc.devRef .tc main_arg1) = V (Proc.devRef .tc main_arg1) := by
  simp only [seg5, TRef.binary, TRef.nullary, TRef.ternary, TRef.unary, TRef.quaternary, TRef.toBuf, TRef.ofBuf, cast_eq]
  after_results_simp <;> rfl
/-- Stretch 6 leaves the scores alone. -/
theorem seg6_keeps_arg0 : after seg6 V (Proc.devRef .tc main_arg0) = V (Proc.devRef .tc main_arg0) := by
  simp only [seg6, TRef.binary, TRef.nullary, TRef.ternary, TRef.unary, TRef.quaternary, TRef.toBuf, TRef.ofBuf, cast_eq]
  after_results_simp <;> rfl
/-- Stretch 6 leaves the targets alone. -/
theorem seg6_keeps_arg1 : after seg6 V (Proc.devRef .tc main_arg1) = V (Proc.devRef .tc main_arg1) := by
  simp only [seg6, TRef.binary, TRef.nullary, TRef.ternary, TRef.unary, TRef.quaternary, TRef.toBuf, TRef.ofBuf, cast_eq]
  after_results_simp <;> rfl

/-- The list's fold is the stretches' folds in turn. -/
theorem after_ops : after ops V = after seg6 (after seg5 (after seg4 (after seg3 (after seg2 (after seg1 V))))) := rfl

/-- The operations leave the loss in the result. -/
theorem ops_v42 : after ops V (Proc.devRef .tc main_v42) = rOut (V (Proc.devRef .tc main_arg0)) (V (Proc.devRef .tc main_arg1)) := by
  rw [after_ops]
  rw [seg6_v42, seg5_keeps_v1, seg4_keeps_v1, seg3_keeps_v1, seg2_keeps_v1, seg1_v1,
    seg5_v34, seg4_keeps_arg0, seg3_keeps_arg0, seg2_keeps_arg0, seg1_keeps_arg0,
    seg5_keeps_arg1, seg4_keeps_arg1, seg3_keeps_arg1, seg2_keeps_arg1, seg1_keeps_arg1,
    seg5_keeps_v33, seg4_v33, seg3_v25, seg2_v15, seg3_keeps_v3, seg2_keeps_v3, seg1_v3]
  rfl
/-- The operations leave the scores alone. -/
theorem ops_arg0 : after ops V (Proc.devRef .tc main_arg0) = V (Proc.devRef .tc main_arg0) := by
  rw [after_ops, seg6_keeps_arg0, seg5_keeps_arg0, seg4_keeps_arg0, seg3_keeps_arg0, seg2_keeps_arg0, seg1_keeps_arg0]
/-- The operations leave the targets alone. -/
theorem ops_arg1 : after ops V (Proc.devRef .tc main_arg1) = V (Proc.devRef .tc main_arg1) := by
  rw [after_ops, seg6_keeps_arg1, seg5_keeps_arg1, seg4_keeps_arg1, seg3_keeps_arg1, seg2_keeps_arg1, seg1_keeps_arg1]
end

set_option maxRecDepth 8192 in
set_option maxHeartbeats 32800000 in
/-- From any memory with zero counters, every weakly fair execution of the reference terminates with the result at
    `rOut` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = rOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v42).trans (ops_v42 _), (h c main_arg0).trans (ops_arg0 _), (h c main_arg1).trans (ops_arg1 _)⟩)
    (run_seq scopedRefs_eq scopedSems_eq defs main (fun _ => ops) main_eq (fun _ => ops_sub) m ρ)

/-- The same run with the arguments unchanged and every semaphore counter zero at the end. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (run m ρ)

end Cert.ReferenceIdeal.Hand

end
-- ==== Proof.Model.lean ====
/- The values the kernel computes at one grid point: the tiles, the running sums over them, and the stores. -/
module
public import proofs.«01_k».proof.Proof.Gen.KernelIdeal.Frame
@[expose] public section
set_option maxRecDepth 16384
noncomputable section
namespace Cert.KernelIdeal.Gen
open Idealize.ShloMosaic Idealize.ShloMosaic.TcCoe

variable {F : FTy → Type} [FloatOps F]

/-- The running maximum of tiles `0..n`. -/
def mxAt (x : Nat → FVec F S8x512 .f32) (n : Nat) : FVec F S8x512 .f32 :=
  Nat.rec (x 0) (fun n m => select (cmpf .ogt (x (n+1)) m) (x (n+1)) m) n
/-- The position of the running maximum of tiles `0..n`, the first one on ties. -/
def ixAt (x : Nat → FVec F S8x512 .f32) (n : Nat) : IVec S8x512 32 :=
  Nat.rec (broadcast S8x512 0#32)
    (fun n i => select (cmpf .ogt (x (n+1)) (mxAt x n)) (broadcast S8x512 (BitVec.ofNat 32 (n+1))) i) n
/-- The running sum of the target tiles `0..n`. -/
def tsAt (t : Nat → FVec F S8x512 .f32) (n : Nat) : FVec F S8x512 .f32 :=
  Nat.rec (t 0) (fun n m => addf m (t (n+1))) n
/-- The running sum of the products of scores and targets, tiles `0..n`. -/
def xtAt (x t : Nat → FVec F S8x512 .f32) (n : Nat) : FVec F S8x512 .f32 :=
  Nat.rec (mulf (x 0) (t 0)) (fun n m => addf m (mulf (x (n+1)) (t (n+1)))) n
/-- The running sum of the exponentials of the scores less `m`, tiles `0..n`. -/
def esAt (x : Nat → FVec F S8x512 .f32) (m : FVec F S8x512 .f32) (n : Nat) : FVec F S8x512 .f32 :=
  Nat.rec (exp (subf (x 0) m)) (fun n s => addf s (exp (subf (x (n+1)) m))) n
/-- The unweighted loss of each pixel of a tile. -/
def sAt (x t : Nat → FVec F S8x512 .f32) : FVec F S8x512 .f32 :=
  subf (mulf (addf (log (esAt x (mxAt x 18) 18)) (mxAt x 18)) (tsAt t 18)) (xtAt x t 18)
/-- How many of the first `n` tiles have class `k` as their position of the maximum, per element. -/
def cntAt (X : Nat → Nat → FVec F S8x512 .f32) (k n : Nat) : FVec F S8x512 .f32 :=
  Nat.rec (broadcast S8x512 (Scalar.ofBits .f32 0x00000000#32))
    (fun p a => addf a (select (cmpi .eq (ixAt (X p) 18) (broadcast S8x512 (BitVec.ofNat 32 k)))
      (broadcast S8x512 (Scalar.ofBits .f32 0x3F800000#32)) (broadcast S8x512 (Scalar.ofBits .f32 0x00000000#32)))) n
/-- The sum over the first `n` tiles of the unweighted loss where class `k` is the position of the maximum, per element. -/
def ssAt (X T : Nat → Nat → FVec F S8x512 .f32) (k n : Nat) : FVec F S8x512 .f32 :=
  Nat.rec (broadcast S8x512 (Scalar.ofBits .f32 0x00000000#32))
    (fun p a => addf a (select (cmpi .eq (ixAt (X p) 18) (broadcast S8x512 (BitVec.ofNat 32 k)))
      (sAt (X p) (T p)) (broadcast S8x512 (Scalar.ofBits .f32 0x00000000#32)))) n

/-- The rectangle of class `k` and tile `p` lies in the block. -/
theorem inbX (k p : Nat) : ∀ a, (![k % 19, 8 * (p % 32 / 4), 512 * (p % 4)] : Fin 3 → Nat) a + S1x8x512.size a ≤ S19x64x2048.size a := by
  intro a
  have h1 : k % 19 < 19 := Nat.mod_lt _ (by decide)
  have h2 : p % 4 < 4 := Nat.mod_lt _ (by decide)
  have h3 : p % 32 < 32 := Nat.mod_lt _ (by decide)
  fin_cases a
  · show k % 19 + 1 ≤ 19; omega
  · show 8 * (p % 32 / 4) + 8 ≤ 64; omega
  · show 512 * (p % 4) + 512 ≤ 2048; omega

/-- Tile `p` of class `k`, as read from the block. -/
def tileOf (arg1 : Memref sig .tc .vmem S19x64x2048 .f32) (harg1 : arg1.IsWhole) (x0 : Vec F S19x64x2048 .f32)
    (p k : Nat) : FVec F S8x512 .f32 :=
  shapeCast S8x512 (View.readAt (Elt F) arg1.view
      (Rect.unit (s := S19x64x2048) ![k % 19, 8 * (p % 32 / 4), 512 * (p % 4)] S1x8x512.size (inbX k p)).toLoadRect
      (harg1.unread x0)) shapeCasts_S1x8x512_S8x512

/-- Slab `k` lies in the scratch. -/
theorem inbS (k : Nat) : ∀ a, (![k % 38, 0, 0] : Fin 3 → Nat) a + S1x8x512.size a ≤ S38x8x512.size a := by
  intro a
  have h1 : k % 38 < 38 := Nat.mod_lt _ (by decide)
  fin_cases a
  · show k % 38 + 1 ≤ 38; omega
  · show 0 + 8 ≤ 8; omega
  · show 0 + 512 ≤ 512; omega

/-- Slab `k` of the scratch. -/
abbrev slab (k : Nat) : Rect S38x8x512 := Rect.unit (s := S38x8x512) ![k % 38, 0, 0] S1x8x512.size (inbS k)

/-- A slab's new contents: its old ones plus `d`. -/
def upd (v : Vec F S1x8x512 .f32) (d : FVec F S8x512 .f32) : FVec F S1x8x512 .f32 :=
  shapeCast S1x8x512 (addf (shapeCast S8x512 v shapeCasts_S1x8x512_S8x512) d) shapeCasts_S8x512_S1x8x512

/-- The stores of a later grid point over the scratch, the last one first. -/
def piecesB (X T : Nat → Nat → FVec F S8x512 .f32) (rd : (k : Nat) → (slab k).shape.Idx → Elt F .f32) (n : Nat) :
    List (View.Piece (Elt F) S38x8x512 .f32) :=
  Nat.rec []
    (fun k L => ⟨slab (19 + k), upd (rd (19 + k)) (ssAt X T k 32)⟩ :: ⟨slab k, upd (rd k) (cntAt X k 32)⟩ :: L) n

/-- The stores of the first grid point over the scratch, the last one first: the zero fill, then the slabs. -/
def piecesA (v : View sig .tc .vmem S38x8x512 .f32) (X T : Nat → Nat → FVec F S8x512 .f32) (n : Nat) :
    List (View.Piece (Elt F) S38x8x512 .f32) :=
  Nat.rec [⟨Rect.unit (s := S38x8x512) ![0, 0, 0] S38x8x512.size inb_S38x8x512_S38x8x512_0_0_0, shapeCast S38x8x512 (broadcast S38x8x512 (Scalar.ofBits .f32 0x00000000#32)) shapeCasts_S38x8x512_S38x8x512⟩]
    (fun k L => ⟨slab (19 + k), upd (v.readCov (⟨slab k, upd (v.readCov L (slab k).toLoadRect) (cntAt X k 32)⟩ :: L) (slab (19 + k)).toLoadRect) (ssAt X T k 32)⟩ ::
      ⟨slab k, upd (v.readCov L (slab k).toLoadRect) (cntAt X k 32)⟩ :: L) n

section
variable (c : Dev nD) (i : grid0.Coords) (arg1 : Memref sig .tc .vmem S19x64x2048 .f32) (harg1 : arg1.IsWhole) (arg2 : Memref sig .tc .vmem S19x64x2048 .f32) (harg2 : arg2.IsWhole) (arg3 : Memref sig .tc .vmem S1x1 .f32) (harg3 : arg3.IsWhole) (arg4 : Memref sig .tc .vmem S38x8x512 .f32) (harg4 : arg4.IsWhole)
  (x0 x1 : Vec F S19x64x2048 .f32) (xs0 : Vec F S38x8x512 .f32)

/-- The stores of a middle grid point. -/
theorem run_B (hc0 : ¬cond0_0 i) (hc1 : ¬cond0_1 i) :
    (kernelRun0_B c i arg1 harg1 arg2 harg2 arg3 harg3 arg4 harg4 hc0 hc1 x0 x1 xs0).2.1
      = piecesB (tileOf arg1 harg1 x0) (tileOf arg2 harg2 x1) (fun k => View.readAt (Elt F) arg4.view (slab k).toLoadRect (harg4.unread xs0)) 19 := by
  chain_rfl

/-- The stores of the last grid point over the scratch. -/
theorem run_C (hc0 : ¬cond0_0 i) (hc1 : cond0_1 i) :
    (kernelRun0_C c i arg1 harg1 arg2 harg2 arg3 harg3 arg4 harg4 hc0 hc1 x0 x1 xs0).2.1
      = piecesB (tileOf arg1 harg1 x0) (tileOf arg2 harg2 x1) (fun k => View.readAt (Elt F) arg4.view (slab k).toLoadRect (harg4.unread xs0)) 19 := by
  chain_rfl

/-- The store of the last grid point over the output block. -/
theorem run_C_out (hc0 : ¬cond0_0 i) (hc1 : cond0_1 i) :
    (kernelRun0_C c i arg1 harg1 arg2 harg2 arg3 harg3 arg4 harg4 hc0 hc1 x0 x1 xs0).1
      = [⟨Rect.unit (s := S1x1) ![0, 0] S1x1.size inb_S1x1_S1x1_0_0,
          k0_pay4
            (arg4.view.readCov (piecesB (tileOf arg1 harg1 x0) (tileOf arg2 harg2 x1) (fun k => View.readAt (Elt F) arg4.view (slab k).toLoadRect (harg4.unread xs0)) 19)
              (Rect.unit (s := S38x8x512) ![0, 0, 0] S19x8x512.size inb_S38x8x512_S19x8x512_0_0_0).toLoadRect)
            (arg4.view.readCov (piecesB (tileOf arg1 harg1 x0) (tileOf arg2 harg2 x1) (fun k => View.readAt (Elt F) arg4.view (slab k).toLoadRect (harg4.unread xs0)) 19)
              (Rect.unit (s := S38x8x512) ![19, 0, 0] S19x8x512.size inb_S38x8x512_S19x8x512_19_0_0).toLoadRect)⟩] := by
  chain_rfl

/-- The stores of the first grid point. -/
theorem run_A (hc0 : cond0_0 i) (hc1 : ¬cond0_1 i) :
    (kernelRun0_A c i arg1 harg1 arg2 harg2 arg3 harg3 arg4 harg4 hc0 hc1 x0 x1).2.1
      = piecesA arg4.view (tileOf arg1 harg1 x0) (tileOf arg2 harg2 x1) 19 := by
  chain_rfl
end
-- ==== Proof.Slabs.lean ====
/- What one grid point leaves in the scratch and in the output block, element by element. -/
module
public import proofs.«01_k».proof.Proof.Model
public import Idealize.ShloMosaic.Lib.Pointwise
@[expose] public section
set_option maxRecDepth 16384
noncomputable section
namespace Cert.KernelIdeal.Gen
open Idealize.ShloMosaic Idealize.ShloMosaic.TcCoe Idealize.SL.Sem

variable {F : FTy → Type} [FloatOps F]

/-- The scratch index in slab `k`. -/
def sIdx (k : Nat) (a : Fin 8) (b : Fin 512) : S38x8x512.Idx := ix3 ⟨k % 38, Nat.mod_lt _ (by decide)⟩ a b

/-- Where slab `k` puts its elements. -/
theorem slab_emb (k : Nat) (x : (slab k).shape.Idx) : (slab k).emb x = sIdx k (x 1) (x 2) := by
  funext a
  apply Fin.ext
  have h0 : (x 0).val < 1 := (x 0).isLt
  match a with
  | ⟨0, _⟩ => show k % 38 + 1 * (x 0).val = k % 38; omega
  | ⟨1, _⟩ => show 0 + 1 * (x 1).val = (x 1).val; omega
  | ⟨2, _⟩ => show 0 + 1 * (x 2).val = (x 2).val; omega

/-- Where a read of slab `k` takes its elements. -/
theorem slab_idx (k : Nat) (x : (slab k).toLoadRect.shape.Idx) : (slab k).toLoadRect.idx x = sIdx k (x 1) (x 2) :=
  slab_emb k x

/-- Slab `k` is the indices with leading coordinate `k`. -/
theorem mem_slab (k : Nat) (y : S38x8x512.Idx) : y ∈ (slab k).set ↔ (y 0).val = k % 38 := by
  rw [Rect.mem_set_unit]
  have h1 : (y 1).val < 8 := (y 1).isLt
  have h2 : (y 2).val < 512 := (y 2).isLt
  constructor
  · intro h
    have := h 0
    have h3 : k % 38 ≤ (y 0).val ∧ (y 0).val < k % 38 + 1 := this
    omega
  · intro h a
    match a with
    | ⟨0, _⟩ => exact (show k % 38 ≤ (y 0).val ∧ (y 0).val < k % 38 + 1 by omega)
    | ⟨1, _⟩ => exact (show 0 ≤ (y 1).val ∧ (y 1).val < 0 + 8 by omega)
    | ⟨2, _⟩ => exact (show 0 ≤ (y 2).val ∧ (y 2).val < 0 + 512 by omega)

/-- A slab's new contents at an index. -/
theorem upd_apply (v : Vec F S1x8x512 .f32) (d : FVec F S8x512 .f32) (x : S1x8x512.Idx) :
    upd v d x = FloatOps.addf (v (ix3 0 (x 1) (x 2))) (d (ix2 (x 1) (x 2))) := by
  idx_vars x
  pointwise [upd]

/-- What one grid point adds: slabs under 19 count the tile's pixels of a class, the others sum the loss over them. -/
def accAt (xs : Vec F S38x8x512 .f32) (X T : Nat → Nat → FVec F S8x512 .f32) : Vec F S38x8x512 .f32 := fun y =>
  FloatOps.addf (xs y) (if (y 0).val < 19 then cntAt X (y 0).val 32 (ix2 (y 1) (y 2)) else ssAt X T ((y 0).val - 19) 32 (ix2 (y 1) (y 2)))

/-- What a grid point adds to a counting slab. -/
theorem accAt_lo (xs : Vec F S38x8x512 .f32) (X T : Nat → Nat → FVec F S8x512 .f32) (k : Nat) (hk : k < 19) (a : Fin 8) (b : Fin 512) :
    accAt xs X T (sIdx k a b) = FloatOps.addf (xs (sIdx k a b)) (cntAt X k 32 (ix2 a b)) := by
  have e : ((sIdx k a b) 0).val = k := Nat.mod_eq_of_lt (by omega)
  unfold accAt
  rw [e, if_pos hk]; rfl

/-- What a grid point adds to a summing slab. -/
theorem accAt_hi (xs : Vec F S38x8x512 .f32) (X T : Nat → Nat → FVec F S8x512 .f32) (k : Nat) (hk : k < 19) (a : Fin 8) (b : Fin 512) :
    accAt xs X T (sIdx (19 + k) a b) = FloatOps.addf (xs (sIdx (19 + k) a b)) (ssAt X T k 32 (ix2 a b)) := by
  have e : ((sIdx (19 + k) a b) 0).val = 19 + k := Nat.mod_eq_of_lt (by omega)
  unfold accAt
  rw [e, if_neg (by omega), Nat.add_sub_cancel_left]; rfl

/-- The stores of a later grid point are one per slab. -/
theorem piecesB_mem (X T : Nat → Nat → FVec F S8x512 .f32) (rd : (k : Nat) → (slab k).shape.Idx → Elt F .f32) (n : Nat)
    (p : View.Piece (Elt F) S38x8x512 .f32) :
    p ∈ piecesB X T rd n ↔ ∃ k, k < n ∧ (p = ⟨slab (19 + k), upd (rd (19 + k)) (ssAt X T k 32)⟩ ∨ p = ⟨slab k, upd (rd k) (cntAt X k 32)⟩) := by
  induction n with
  | zero => simp [piecesB]
  | succ n ih =>
    show p ∈ (⟨slab (19 + n), upd (rd (19 + n)) (ssAt X T n 32)⟩ :: ⟨slab n, upd (rd n) (cntAt X n 32)⟩ :: piecesB X T rd n) ↔ _
    rw [List.mem_cons, List.mem_cons, ih]
    constructor
    · rintro (h | h | ⟨k, hk, h⟩)
      · exact ⟨n, by omega, .inl h⟩
      · exact ⟨n, by omega, .inr h⟩
      · exact ⟨k, by omega, h⟩
    · rintro ⟨k, hk, h⟩
      by_cases e : k = n
      · subst e; rcases h with h | h
        · exact .inl h
        · exact .inr (.inl h)
      · exact .inr (.inr ⟨k, by omega, h⟩)

/-- The leading coordinate of an index in slab `k`. -/
theorem sIdx_0 (k : Nat) (a : Fin 8) (b : Fin 512) : ((sIdx k a b) 0).val = k % 38 := rfl

/-- An index is the slab index of its coordinates. -/
theorem eq_sIdx (y : S38x8x512.Idx) (k : Nat) (h : (y 0).val = k) : y = sIdx k (y 1) (y 2) := by
  have h0 : (y 0).val < 38 := (y 0).isLt
  funext a
  apply Fin.ext
  match a with
  | ⟨0, _⟩ => exact (show (y 0).val = k % 38 by omega)
  | ⟨1, _⟩ => rfl
  | ⟨2, _⟩ => rfl

/-- After a store to slab `k`, slab `k` holds what was stored. -/
theorem canon_hit (k : Nat) (w : S1x8x512.Idx → Elt F .f32) (L : List (View.Piece (Elt F) S38x8x512 .f32)) (a : Fin 8) (b : Fin 512) :
    View.canon (⟨slab k, w⟩ :: L) (sIdx k a b) = w (ix3 0 a b) := by
  have e : sIdx k a b = (slab k).emb (ix3 0 a b : S1x8x512.Idx) := (slab_emb k (ix3 0 a b : S1x8x512.Idx)).symm
  rw [e]
  exact View.canon_cons_emb (slab k) w L (ix3 0 a b : S1x8x512.Idx)

/-- A store to slab `k` leaves the other slabs alone. -/
theorem canon_miss (k : Nat) (w : S1x8x512.Idx → Elt F .f32) (L : List (View.Piece (Elt F) S38x8x512 .f32)) (y : S38x8x512.Idx)
    (h : (y 0).val ≠ k % 38) : View.canon (⟨slab k, w⟩ :: L) y = View.canon L y :=
  View.canon_cons_of_not_mem _ _ fun hm => h ((mem_slab _ _).mp hm)

/-- A read of slab `k` takes what the stores before it left. -/
theorem readCov_slab (v : View sig .tc .vmem S38x8x512 .f32) (L : List (View.Piece (Elt F) S38x8x512 .f32)) (k : Nat) (a : Fin 8) (b : Fin 512) :
    v.readCov L (slab k).toLoadRect (ix3 0 a b : S1x8x512.Idx) = View.canon L (sIdx k a b) := by
  rw [View.readCov_eq_canon']
  exact congrArg _ (slab_idx k (ix3 0 a b : S1x8x512.Idx))

/-- The store to a summing slab agrees with the accumulated scratch. -/
theorem upd_hi (X T : Nat → Nat → FVec F S8x512 .f32) (xs : Vec F S38x8x512 .f32) (w : S1x8x512.Idx → Elt F .f32) (k : Nat) (hk : k < 19)
    (hw : ∀ (a : Fin 8) (b : Fin 512), w (ix3 0 a b) = xs (sIdx (19 + k) a b)) (x : S1x8x512.Idx) :
    upd w (ssAt X T k 32) x = accAt xs X T ((slab (19 + k)).emb x) := by
  refine (upd_apply _ _ _).trans (Eq.trans ?_ ((congrArg (accAt xs X T) (slab_emb (19 + k) x)).trans (accAt_hi xs X T k hk (x 1) (x 2))).symm)
  exact congrArg (fun z => FloatOps.addf z _) (hw (x 1) (x 2))

/-- The store to a counting slab agrees with the accumulated scratch. -/
theorem upd_lo (X T : Nat → Nat → FVec F S8x512 .f32) (xs : Vec F S38x8x512 .f32) (w : S1x8x512.Idx → Elt F .f32) (k : Nat) (hk : k < 19)
    (hw : ∀ (a : Fin 8) (b : Fin 512), w (ix3 0 a b) = xs (sIdx k a b)) (x : S1x8x512.Idx) :
    upd w (cntAt X k 32) x = accAt xs X T ((slab k).emb x) := by
  refine (upd_apply _ _ _).trans (Eq.trans ?_ ((congrArg (accAt xs X T) (slab_emb k x)).trans (accAt_lo xs X T k hk (x 1) (x 2))).symm)
  exact congrArg (fun z => FloatOps.addf z _) (hw (x 1) (x 2))

/-- At a later grid point the stores leave the accumulated scratch. -/
theorem canon_piecesB (X T : Nat → Nat → FVec F S8x512 .f32) (xs : Vec F S38x8x512 .f32) (rd : (k : Nat) → (slab k).shape.Idx → Elt F .f32)
    (hrd : ∀ k (a : Fin 8) (b : Fin 512), rd k (ix3 0 a b : S1x8x512.Idx) = xs (sIdx k a b)) :
    View.canon (piecesB X T rd 19) = accAt xs X T := by
  funext y
  refine View.canon_apply_of_pieces (Val := Elt F) (accAt xs X T) _ ?_ y ?_
  · intro p hp
    obtain ⟨k, hk, h⟩ := (piecesB_mem _ _ _ _ _).mp hp
    rcases h with rfl | rfl
    · exact upd_hi X T xs (rd (19 + k)) k hk (hrd _)
    · exact upd_lo X T xs (rd k) k hk (hrd _)
  · have h0 : (y 0).val < 38 := (y 0).isLt
    by_cases h : (y 0).val < 19
    · exact ⟨_, (piecesB_mem _ _ _ _ _).mpr ⟨(y 0).val, h, .inr rfl⟩, (mem_slab _ _).mpr (Nat.mod_eq_of_lt h0).symm⟩
    · refine ⟨_, (piecesB_mem _ _ _ _ _).mpr ⟨(y 0).val - 19, by omega, .inl rfl⟩, (mem_slab _ _).mpr ?_⟩
      rw [Nat.mod_eq_of_lt (by omega)]; omega

/-- The fill leaves its value everywhere. -/
theorem canon_fill (x : F .f32) (y : S38x8x512.Idx) :
    View.canon [(⟨Rect.unit (s := S38x8x512) ![0, 0, 0] S38x8x512.size inb_S38x8x512_S38x8x512_0_0_0, shapeCast S38x8x512 (broadcast S38x8x512 x) shapeCasts_S38x8x512_S38x8x512⟩ : View.Piece (Elt F) S38x8x512 .f32)] y = x := by
  rw [View.canon_unit_zero (by funext a; fin_cases a <;> rfl)]
  rfl

/-- At the first grid point the stores over the zero fill leave the accumulated scratch, as far as they have gone. -/
theorem canon_piecesA (v : View sig .tc .vmem S38x8x512 .f32) (X T : Nat → Nat → FVec F S8x512 .f32) (n : Nat) (hn : n ≤ 19) (y : S38x8x512.Idx) :
    View.canon (piecesA v X T n) y
      = if (y 0).val < n ∨ (19 ≤ (y 0).val ∧ (y 0).val < 19 + n) then accAt (fun _ => Scalar.ofBits .f32 0x00000000#32) X T y
        else Scalar.ofBits .f32 0x00000000#32 := by
  induction n generalizing y with
  | zero =>
    rw [if_neg (by omega)]
    exact canon_fill _ y
  | succ n ih =>
    have ih := ih (by omega)
    have e1 : View.canon (piecesA v X T (n + 1)) y = View.canon (⟨slab (19 + n), upd (v.readCov (⟨slab n, upd (v.readCov (piecesA v X T n) (slab n).toLoadRect) (cntAt X n 32)⟩ :: piecesA v X T n) (slab (19 + n)).toLoadRect) (ssAt X T n 32)⟩ ::
      ⟨slab n, upd (v.readCov (piecesA v X T n) (slab n).toLoadRect) (cntAt X n 32)⟩ :: piecesA v X T n) y := rfl
    rw [e1]
    clear e1
    generalize piecesA v X T n = L at ih ⊢
    have h0 : (y 0).val < 38 := (y 0).isLt
    have m1 : (19 + n) % 38 = 19 + n := Nat.mod_eq_of_lt (by omega)
    have m2 : n % 38 = n := Nat.mod_eq_of_lt (by omega)
    by_cases h1 : (y 0).val = 19 + n
    · rw [if_pos (by omega)]
      obtain ⟨a, b, rfl⟩ : ∃ (a : Fin 8) (b : Fin 512), y = sIdx (19 + n) a b := ⟨y 1, y 2, eq_sIdx y _ h1⟩
      rw [canon_hit, accAt_hi _ _ _ _ (by omega), upd_apply]
      refine congrArg (fun z => FloatOps.addf z _) ?_
      refine (readCov_slab v _ (19 + n) a b).trans ?_
      rw [canon_miss _ _ _ _ (by rw [sIdx_0]; omega), ih, if_neg (by rw [sIdx_0]; omega)]
    · rw [canon_miss _ _ _ _ (by omega)]
      by_cases h2 : (y 0).val = n
      · rw [if_pos (by omega)]
        obtain ⟨a, b, rfl⟩ : ∃ (a : Fin 8) (b : Fin 512), y = sIdx n a b := ⟨y 1, y 2, eq_sIdx y _ h2⟩
        rw [canon_hit, accAt_lo _ _ _ _ (by omega), upd_apply]
        refine congrArg (fun z => FloatOps.addf z _) ?_
        refine (readCov_slab v _ n a b).trans ?_
        rw [ih, if_neg (by rw [sIdx_0]; omega)]
      · rw [canon_miss _ _ _ _ (by omega), ih]
        congr 1
        apply propext
        omega

end Cert.KernelIdeal.Gen
-- ==== Proof.KernPoint.lean ====
/- What one grid point leaves, as plain functions of the blocks it reads and of the scratch it finds. -/
module
public import proofs.«01_k».proof.Proof.Slabs
public import Idealize.ShloMosaic.Lib.Pipeline.ValueKit
@[expose] public section
set_option maxRecDepth 16384
noncomputable section
namespace Cert.KernelIdeal.Gen
open Idealize.ShloMosaic Idealize.ShloMosaic.TcCoe Idealize.SL.Sem

variable {F : FTy → Type} [FloatOps F]

/-- The block index of lane `(a, b)` of tile `p`, class `k`. -/
def tIdx (p k : Nat) (a : Fin 8) (b : Fin 512) : S19x64x2048.Idx :=
  ix3 ⟨k % 19, Nat.mod_lt _ (by decide)⟩ ⟨8 * (p % 32 / 4) + a.val, by omega⟩ ⟨512 * (p % 4) + b.val, by omega⟩

/-- A tile of a block, element by element. -/
def tile (x0 : Vec F S19x64x2048 .f32) (p k : Nat) : FVec F S8x512 .f32 := fun j => x0 (tIdx p k (j 0) (j 1))

/-- The tile read from a whole buffer holding `x0` is the tile of `x0`. -/
theorem tileOf_eq (arg1 : Memref sig .tc .vmem S19x64x2048 .f32) (harg1 : arg1.IsWhole) (x0 : Vec F S19x64x2048 .f32) :
    tileOf arg1 harg1 x0 = tile x0 := by
  funext p k j
  unfold tileOf tile
  refine (shapeCast_dropUnit_apply _ _ _ _).trans ?_
  rw [View.readAt_eq_ld, harg1.read_unread]
  refine congrArg x0 ?_
  funext a
  apply Fin.ext
  match a with
  | ⟨0, _⟩ => show k % 19 + 1 * 0 = k % 19; omega
  | ⟨1, _⟩ => show 8 * (p % 32 / 4) + 1 * (j 0).val = _; rw [Nat.one_mul]; rfl
  | ⟨2, _⟩ => show 512 * (p % 4) + 1 * (j 1).val = _; rw [Nat.one_mul]; rfl

section
variable (c : Dev nD) (i : grid0.Coords) (arg1 : Memref sig .tc .vmem S19x64x2048 .f32) (harg1 : arg1.IsWhole) (arg2 : Memref sig .tc .vmem S19x64x2048 .f32) (harg2 : arg2.IsWhole) (arg3 : Memref sig .tc .vmem S1x1 .f32) (harg3 : arg3.IsWhole) (arg4 : Memref sig .tc .vmem S38x8x512 .f32) (harg4 : arg4.IsWhole)
  (x0 x1 : Vec F S19x64x2048 .f32) (xs0 : Vec F S38x8x512 .f32)

/-- The first point leaves the scratch accumulated over zero. -/
theorem sout_A (hc0 : cond0_0 i) (hc1 : ¬cond0_1 i) :
    sout0_A_0 c i arg1 harg1 arg2 harg2 arg3 harg3 arg4 harg4 hc0 hc1 x0 x1
      = accAt (fun _ => Scalar.ofBits .f32 0x00000000#32) (tile x0) (tile x1) := by
  unfold sout0_A_0
  rw [View.read_writes_junk_eq_canon, run_A, tileOf_eq, tileOf_eq]
  funext y
  have h0 : (y 0).val < 38 := (y 0).isLt
  rw [canon_piecesA _ _ _ 19 (le_refl _), if_pos (by omega)]

/-- What a later point reads of slab `k` is the scratch it found. -/
theorem rd_slab (k : Nat) (a : Fin 8) (b : Fin 512) :
    View.readAt (Elt F) arg4.view (slab k).toLoadRect (harg4.unread xs0) (ix3 0 a b : S1x8x512.Idx) = xs0 (sIdx k a b) := by
  rw [View.readAt_eq_ld, harg4.read_unread]
  exact congrArg xs0 (slab_idx k (ix3 0 a b : S1x8x512.Idx))

/-- A middle point leaves the scratch accumulated over what it found. -/
theorem sout_B (hc0 : ¬cond0_0 i) (hc1 : ¬cond0_1 i) :
    sout0_B_0 c i arg1 harg1 arg2 harg2 arg3 harg3 arg4 harg4 hc0 hc1 x0 x1 xs0 = accAt xs0 (tile x0) (tile x1) := by
  unfold sout0_B_0
  rw [View.read_writes_junk_eq_canon, run_B, tileOf_eq, tileOf_eq]
  exact canon_piecesB _ _ _ _ (rd_slab arg4 harg4 xs0)

/-- The first nineteen slabs. -/
def loSlabs (xs : Vec F S38x8x512 .f32) : Vec F S19x8x512 .f32 := fun j => xs (sIdx (j 0).val (j 1) (j 2))

/-- The last nineteen slabs. -/
def hiSlabs (xs : Vec F S38x8x512 .f32) : Vec F S19x8x512 .f32 := fun j => xs (sIdx (19 + (j 0).val) (j 1) (j 2))

/-- Reading the first nineteen slabs back. -/
theorem readCov_lo (v : View sig .tc .vmem S38x8x512 .f32) (L : List (View.Piece (Elt F) S38x8x512 .f32)) :
    v.readCov L (Rect.unit (s := S38x8x512) ![0, 0, 0] S19x8x512.size inb_S38x8x512_S19x8x512_0_0_0).toLoadRect = loSlabs (View.canon L) := by
  rw [View.readCov_eq_canon']
  funext j
  have h0 : (j 0).val < 19 := (j 0).isLt
  refine congrArg (View.canon L) ?_
  funext a
  apply Fin.ext
  match a with
  | ⟨0, _⟩ => show 0 + 1 * (j 0).val = (j 0).val % 38; omega
  | ⟨1, _⟩ => show 0 + 1 * (j 1).val = (j 1).val; omega
  | ⟨2, _⟩ => show 0 + 1 * (j 2).val = (j 2).val; omega

/-- Reading the last nineteen slabs back. -/
theorem readCov_hi (v : View sig .tc .vmem S38x8x512 .f32) (L : List (View.Piece (Elt F) S38x8x512 .f32)) :
    v.readCov L (Rect.unit (s := S38x8x512) ![19, 0, 0] S19x8x512.size inb_S38x8x512_S19x8x512_19_0_0).toLoadRect = hiSlabs (View.canon L) := by
  rw [View.readCov_eq_canon']
  funext j
  have h0 : (j 0).val < 19 := (j 0).isLt
  refine congrArg (View.canon L) ?_
  funext a
  apply Fin.ext
  match a with
  | ⟨0, _⟩ => show 19 + 1 * (j 0).val = (19 + (j 0).val) % 38; omega
  | ⟨1, _⟩ => show 0 + 1 * (j 1).val = (j 1).val; omega
  | ⟨2, _⟩ => show 0 + 1 * (j 2).val = (j 2).val; omega

/-- The last point stores the loss of the slabs it has accumulated. -/
theorem out_C (hc0 : ¬cond0_0 i) (hc1 : cond0_1 i) :
    out0_C_2 c i arg1 harg1 arg2 harg2 arg3 harg3 arg4 harg4 hc0 hc1 x0 x1 xs0
      = k0_pay4 (loSlabs (accAt xs0 (tile x0) (tile x1))) (hiSlabs (accAt xs0 (tile x0) (tile x1))) := by
  unfold out0_C_2
  rw [View.read_writes_junk_eq_canon, run_C_out, tileOf_eq, tileOf_eq, readCov_lo, readCov_hi,
    canon_piecesB _ _ xs0 _ (rd_slab arg4 harg4 xs0)]
  exact View.canon_unit_zero (by funext a; fin_cases a <;> rfl) _ _
end

end Cert.KernelIdeal.Gen
-- ==== Proof.KernChain.lean ====
/- The scratch from point to point. -/
module
public import proofs.«01_k».proof.Proof.KernPoint
@[expose] public section
set_option maxRecDepth 16384
noncomputable section
namespace Cert.KernelIdeal.Gen
open Idealize.ShloMosaic Idealize.ShloMosaic.TcCoe Idealize.SL.Sem

variable {F : FTy → Type} [FloatOps F] (m : (ℓ : Loc nD τ sig) → Buf (Elt F) ℓ) (c : Dev nD)

/-- The scratch before the first point. -/
def zeroS : Vec F S38x8x512 .f32 := fun _ => Scalar.ofBits .f32 0x00000000#32

/-- The scratch after the first point. -/
theorem snd_A (n : Fin cfg0.N) (h0 : n.val % 16 = 0) (h1 : ¬n.val % 16 = 15) :
    (outsAt0 m c n.val n.isLt).2 = accAt zeroS (tile (iblk m c 0 n)) (tile (iblk m c 1 n)) := by
  rw [outsAt0_A m c n h0 h1, sout_A]
  rfl

/-- The scratch after a middle point. -/
theorem snd_B (n : Fin cfg0.N) (h0 : ¬n.val % 16 = 0) (h1 : ¬n.val % 16 = 15) :
    (outsAt0 m c n.val n.isLt).2 = accAt (outsAt0 m c (n.val - 1) (Nat.lt_of_le_of_lt (Nat.sub_le _ _) n.isLt)).2 (tile (iblk m c 0 n)) (tile (iblk m c 1 n)) := by
  rw [outsAt0_B m c n h0 h1, sout_B]

/-- What the last point stores, from the scratch it finds. -/
theorem fst_C (n : Fin cfg0.N) (h0 : ¬n.val % 16 = 0) (h1 : n.val % 16 = 15) :
    (outsAt0 m c n.val n.isLt).1
      = k0_pay4 (loSlabs (accAt (outsAt0 m c (n.val - 1) (Nat.lt_of_le_of_lt (Nat.sub_le _ _) n.isLt)).2 (tile (iblk m c 0 n)) (tile (iblk m c 1 n))))
          (hiSlabs (accAt (outsAt0 m c (n.val - 1) (Nat.lt_of_le_of_lt (Nat.sub_le _ _) n.isLt)).2 (tile (iblk m c 0 n)) (tile (iblk m c 1 n)))) := by
  rw [outsAt0_C m c n h0 h1, out_C]

end Cert.KernelIdeal.Gen
-- ==== Proof.KernBlock.lean ====
/- The blocks a grid point reads, as rows of the argument arrays. -/
module
public import proofs.«01_k».proof.Proof.Gen.KernelIdeal.Frame
public import Idealize.ShloMosaic.Lib.Pipeline.ValueKit
public import Idealize.ShloMosaic.Lib.Pointwise
@[expose] public section
set_option maxRecDepth 16384
noncomputable section
namespace Cert.KernelIdeal.Gen
open Idealize.ShloMosaic Idealize.ShloMosaic.TcCoe Idealize.SL.Sem

variable {F : FTy → Type} [FloatOps F] (m : (ℓ : Loc nD τ sig) → Buf (Elt F) ℓ)

/-- The block of the first window moves down the rows with the point. -/
theorem index_0 : ∀ t : Fin cfg0.N, win0_0.index t = ![0, t.val, 0] := by decide +kernel
/-- The block of the second window moves down the rows with the point. -/
theorem index_1 : ∀ t : Fin cfg0.N, win0_1.index t = ![0, t.val, 0] := by decide +kernel

/-- The region finds the first argument with its unit axis dropped. -/
theorem V_v0 (c : Dev nD) : (V m c main_call0_v0 : Vec F S19x1024x2048 .f32)
    = shapeCast S19x1024x2048 (m ((c : Thread nD τ).loc main_arg0) : Vec F S1x19x1024x2048 .f32) shapeCasts_S1x19x1024x2048_S19x1024x2048 := by
  show StableHlo.after (List.flatten [hostOps0]) (fun b => m (c, b)) (Proc.devRef .tc main_call0_v0) = _
  simp only [List.flatten_cons, List.flatten_nil, List.append_nil]
  after_results
  rfl

/-- The region finds the second argument with its unit axis dropped. -/
theorem V_v1 (c : Dev nD) : (V m c main_call0_v1 : Vec F S19x1024x2048 .f32)
    = shapeCast S19x1024x2048 (m ((c : Thread nD τ).loc main_arg1) : Vec F S1x19x1024x2048 .f32) shapeCasts_S1x19x1024x2048_S19x1024x2048 := by
  show StableHlo.after (List.flatten [hostOps0]) (fun b => m (c, b)) (Proc.devRef .tc main_call0_v1) = _
  simp only [List.flatten_cons, List.flatten_nil, List.append_nil]
  after_results
  rfl

/-- Point `t`'s first block at class `k`, row `h`, column `w`. -/
theorem iblk_0 (c : Dev nD) (t : Fin cfg0.N) (k : Fin 19) (h : Fin 64) (w : Fin 2048) (hr : 64 * t.val + h.val < 1024) :
    (iblk m c 0 t : Vec F S19x64x2048 .f32) (ix3 k h w)
      = (m ((c : Thread nD τ).loc main_arg0) : Vec F S1x19x1024x2048 .f32) (ix4 0 k ⟨64 * t.val + h.val, hr⟩ w) := by
  have e : (iblk m c 0 t : Vec F S19x64x2048 .f32) (ix3 k h w) = (V m c main_call0_v0 : Vec F S19x1024x2048 .f32) (ix3 k ⟨64 * t.val + h.val, hr⟩ w) := by
    unfold iblk
    blk_ext [index_0]
  rw [e, V_v0]
  refine (shapeCast_dropUnit_apply _ _ _ _).trans (congrArg _ ?_)
  funext a
  match a with
  | ⟨0, _⟩ => rfl
  | ⟨1, _⟩ => rfl
  | ⟨2, _⟩ => rfl
  | ⟨3, _⟩ => rfl

/-- Point `t`'s second block at class `k`, row `h`, column `w`. -/
theorem iblk_1 (c : Dev nD) (t : Fin cfg0.N) (k : Fin 19) (h : Fin 64) (w : Fin 2048) (hr : 64 * t.val + h.val < 1024) :
    (iblk m c 1 t : Vec F S19x64x2048 .f32) (ix3 k h w)
      = (m ((c : Thread nD τ).loc main_arg1) : Vec F S1x19x1024x2048 .f32) (ix4 0 k ⟨64 * t.val + h.val, hr⟩ w) := by
  have e : (iblk m c 1 t : Vec F S19x64x2048 .f32) (ix3 k h w) = (V m c main_call0_v1 : Vec F S19x1024x2048 .f32) (ix3 k ⟨64 * t.val + h.val, hr⟩ w) := by
    unfold iblk
    blk_ext [index_1]
  rw [e, V_v1]
  refine (shapeCast_dropUnit_apply _ _ _ _).trans (congrArg _ ?_)
  funext a
  match a with
  | ⟨0, _⟩ => rfl
  | ⟨1, _⟩ => rfl
  | ⟨2, _⟩ => rfl
  | ⟨3, _⟩ => rfl

end Cert.KernelIdeal.Gen
-- ==== Proof.KernTail.lean ====
/- The kernel's run: its result is what the last grid point stores. -/
module
public import proofs.«01_k».proof.Proof.Gen.KernelIdeal.Frame
public import Idealize.ShloMosaic.Lib.Pipeline.ValueKit
public import Idealize.ShloMosaic.Lib.Pointwise
@[expose] public section
set_option maxRecDepth 16384
noncomputable section
namespace Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- The last grid point. -/
def tLast : Fin cfg0.N := ⟨15, by decide⟩

/-- The loss array ends at what the last grid point stores. -/
theorem arrAt_2 (c : Dev nD) : (dats m 0 c).arrAt 2 cfg0.N = ((outsAt0 m c 15 tLast.isLt).1 : Vec F S1x1 .f32) := by
  refine (dats m 0 c).arrAt_eq_of_after_last 2 tLast (by decide +kernel) _ fun j => ?_
  rw [after0_2]
  rfl

/-- The scalar result is the loss array's one element. -/
theorem W_main_v0 (c : Dev nD) :
    (Pipeline.afterTail₀ cfgs (dats m) 0 (V0 m) [hostOps1] c main_v0 : Vec F S_ .f32)
      = fun _ => ((outsAt0 m c 15 tLast.isLt).1 : Vec F S1x1 .f32) (ix2 0 0) := by
  unfold Pipeline.afterTail₀
  simp only [List.flatten_cons, List.flatten_nil, List.append_nil]
  after_results
  have e := Pipeline.withArrays_arr (τ := τ) spec0 launch0.win.arr_inj c (V0 m c) (fun w => (dats m 0 c).arrAt w cfg0.N) 2
  rw [arrAt_2] at e
  erw [e]
  funext j
  refine congrArg ((outsAt0 m c 15 tLast.isLt).1 : Vec F S1x1 .f32) ?_
  funext a
  apply Fin.ext
  match a with
  | ⟨0, _⟩ => exact Nat.lt_one_iff.mp (Fin.isLt _)
  | ⟨1, _⟩ => exact Nat.lt_one_iff.mp (Fin.isLt _)

/-- The kernel runs: its result is what the last point stores and its arguments end unchanged. -/
theorem run_value : θ_run defs (onTc (τ := τ) (main (F := F))) ⟨m, fun _ => 0, ρ⟩ (fun r => ∀ c : Dev nD,
      (r.2.mem ((c.tc : Thread nD τ).loc main_v0) : Vec F S_ .f32) = (fun _ => ((outsAt0 m c 15 tLast.isLt).1 : Vec F S1x1 .f32) (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  exact ⟨((h c).2 main_v0 (by decide +kernel)).trans (W_main_v0 m c),
    ((h c).2 main_arg0 (by decide +kernel)).trans (W_main_arg0 m (dats m) c),
    ((h c).2 main_arg1 (by decide +kernel)).trans (W_main_arg1 m (dats m) c)⟩

end Cert.KernelIdeal.Gen
-- ==== Proof.LossMath.lean ====
/- The loss over the reals: the largest logit of a pixel and its class, the pixel's cross entropy, the sums over classes and over pixels. -/
module

public import Mathlib.Analysis.SpecialFunctions.Pow.Real
public import Mathlib.Algebra.BigOperators.Group.Finset.Basic
public import Mathlib.Algebra.BigOperators.Ring.Finset

@[expose] public section

noncomputable section

namespace Cert.Loss

open Finset

/-- The running maximum of the logits of classes 0 to `n`. -/
def mR (x : ℕ → ℝ) (n : ℕ) : ℝ := Nat.rec (x 0) (fun n m => if m < x (n + 1) then x (n + 1) else m) n

/-- The class at which the running maximum was met first. -/
def iR (x : ℕ → ℝ) (n : ℕ) : ℕ := Nat.rec 0 (fun n i => if mR x n < x (n + 1) then n + 1 else i) n

/-- One more class: the maximum moves to a strictly larger score. -/
theorem mR_succ (x : ℕ → ℝ) (n : ℕ) : mR x (n + 1) = if mR x n < x (n + 1) then x (n + 1) else mR x n := rfl

/-- One more class: the position moves to a strictly larger score. -/
theorem iR_succ (x : ℕ → ℝ) (n : ℕ) : iR x (n + 1) = if mR x n < x (n + 1) then n + 1 else iR x n := rfl

/-- The class of the maximum is one of those seen. -/
theorem iR_le (x : ℕ → ℝ) (n : ℕ) : iR x n ≤ n := by
  induction n with
  | zero => exact le_refl _
  | succ n ih => rw [iR_succ]; split <;> omega

/-- The maximum is the logit at its class. -/
theorem mR_eq (x : ℕ → ℝ) (n : ℕ) : mR x n = x (iR x n) := by
  induction n with
  | zero => rfl
  | succ n ih => rw [iR_succ, mR_succ]; split <;> simp_all

/-- No logit seen exceeds the maximum. -/
theorem le_mR (x : ℕ → ℝ) (n c : ℕ) (h : c ≤ n) : x c ≤ mR x n := by
  induction n with
  | zero => rw [Nat.le_zero.mp h]; exact le_refl _
  | succ n ih =>
    rw [mR_succ]
    rcases Nat.le_succ_iff.mp h with h | rfl
    · split
      · exact (ih h).trans (le_of_lt ‹_›)
      · exact ih h
    · split
      · exact le_refl _
      · exact not_lt.mp ‹_›

/-- No earlier class has the maximum. -/
theorem iR_first (x : ℕ → ℝ) (n c : ℕ) (h : c ≤ n) (e : x c = mR x n) : iR x n ≤ c := by
  induction n with
  | zero => exact Nat.zero_le _
  | succ n ih =>
    rw [mR_succ] at e
    rw [iR_succ]
    rcases Nat.le_succ_iff.mp h with h | rfl
    · split
      · next hlt =>
        rw [if_pos hlt] at e
        exact absurd (le_mR x n c h) (by rw [e]; exact not_le.mpr hlt)
      · next hlt => rw [if_neg hlt] at e; exact ih h e
    · split
      · exact le_refl _
      · exact (iR_le x n).trans (Nat.le_succ n)

/-- The first class with the largest logit is the only one with these two properties. -/
theorem iR_unique (x : ℕ → ℝ) (n i : ℕ) (hi : i ≤ n) (hmax : ∀ c, c ≤ n → x c ≤ x i) (hfst : ∀ c, c ≤ n → x c = x i → i ≤ c) : i = iR x n := by
  have h1 : x i = mR x n := le_antisymm (le_mR x n i hi) (by rw [mR_eq]; exact hmax _ (iR_le x n))
  exact le_antisymm (hfst _ (iR_le x n) ((mR_eq x n).symm.trans h1.symm)) (iR_first x n i hi h1)

/-- A pixel's cross entropy from its logits and targets. -/
def sR (x t : ℕ → ℝ) : ℝ :=
  (Real.log (∑ c ∈ range 19, Real.exp (x c - mR x 18)) + mR x 18) * (∑ c ∈ range 19, t c) - ∑ c ∈ range 19, x c * t c

/-- A pixel's cross entropy is the sum of the negated log softmax weighted by the targets. -/
theorem sum_terms (x t : ℕ → ℝ) (w : ℝ) :
    ∑ c ∈ range 19, -(x c - mR x 18 - Real.log (∑ c ∈ range 19, Real.exp (x c - mR x 18))) * t c * w = w * sR x t := by
  unfold sR
  generalize Real.log (∑ c ∈ range 19, Real.exp (x c - mR x 18)) = L
  generalize mR x 18 = M
  rw [mul_sub, ← mul_assoc, mul_sum, mul_sum, ← sum_sub_distrib]
  exact sum_congr rfl fun c _ => by ring

/-- A sum over `m * n` numbers in `m` runs of `n`. -/
theorem sum_split (m n : ℕ) (g : ℕ → ℝ) : ∑ i ∈ range (m * n), g i = ∑ i ∈ range m, ∑ j ∈ range n, g (n * i + j) := by
  induction m with
  | zero => simp
  | succ m ih => rw [Nat.succ_mul, sum_range_add, ih, sum_range_succ, Nat.mul_comm m n]

/-- The pixels in the kernel's order (lane, grid point, tile) and in row-major order give the same sum. -/
theorem sum_pixels (f : ℕ → ℕ → ℝ) :
    ∑ a ∈ range 8, ∑ b ∈ range 512, ∑ t ∈ range 16, ∑ p ∈ range 32, f (64 * t + 8 * (p % 32 / 4) + a) (512 * (p % 4) + b)
      = ∑ h ∈ range 1024, ∑ w ∈ range 2048, f h w := by
  have e1 : ∀ a b t, ∑ p ∈ range 32, f (64 * t + 8 * (p % 32 / 4) + a) (512 * (p % 4) + b)
      = ∑ r ∈ range 8, ∑ q ∈ range 4, f (64 * t + (8 * r + a)) (512 * q + b) := by
    intro a b t
    rw [show (32 : ℕ) = 8 * 4 from rfl, sum_split]
    refine sum_congr rfl fun r hr => sum_congr rfl fun q hq => ?_
    have hr := mem_range.mp hr
    have hq := mem_range.mp hq
    congr 1 <;> omega
  have e2 : ∀ h, ∑ w ∈ range 2048, f h w = ∑ q ∈ range 4, ∑ b ∈ range 512, f h (512 * q + b) := fun h => by
    rw [show (2048 : ℕ) = 4 * 512 from rfl, sum_split]
  have e3 : ∀ g : ℕ → ℝ, ∑ h ∈ range 1024, g h = ∑ t ∈ range 16, ∑ r ∈ range 8, ∑ a ∈ range 8, g (64 * t + (8 * r + a)) := fun g => by
    rw [show (1024 : ℕ) = 16 * 64 from rfl, sum_split]
    refine sum_congr rfl fun t _ => ?_
    rw [show (64 : ℕ) = 8 * 8 from rfl, sum_split 8 8 fun j => g (8 * 8 * t + j)]
  rw [e3]
  simp only [e1, e2]
  calc _ = ∑ a ∈ range 8, ∑ t ∈ range 16, ∑ b ∈ range 512, ∑ r ∈ range 8, ∑ q ∈ range 4, f (64 * t + (8 * r + a)) (512 * q + b) :=
        sum_congr rfl fun a _ => sum_comm
    _ = ∑ t ∈ range 16, ∑ a ∈ range 8, ∑ b ∈ range 512, ∑ r ∈ range 8, ∑ q ∈ range 4, f (64 * t + (8 * r + a)) (512 * q + b) := sum_comm
    _ = ∑ t ∈ range 16, ∑ a ∈ range 8, ∑ r ∈ range 8, ∑ b ∈ range 512, ∑ q ∈ range 4, f (64 * t + (8 * r + a)) (512 * q + b) :=
        sum_congr rfl fun t _ => sum_congr rfl fun a _ => sum_comm
    _ = ∑ t ∈ range 16, ∑ a ∈ range 8, ∑ r ∈ range 8, ∑ q ∈ range 4, ∑ b ∈ range 512, f (64 * t + (8 * r + a)) (512 * q + b) :=
        sum_congr rfl fun t _ => sum_congr rfl fun a _ => sum_congr rfl fun r _ => sum_comm
    _ = _ := sum_congr rfl fun t _ => sum_comm

/-- The number of pixels of class `k`. -/
def cntR (I : ℕ → ℕ → ℕ) (k : ℕ) : ℝ := ∑ h ∈ range 1024, ∑ w ∈ range 2048, if I h w = k then 1 else 0

/-- The cross entropy summed over the pixels of class `k`. -/
def sumR (I : ℕ → ℕ → ℕ) (S : ℕ → ℕ → ℝ) (k : ℕ) : ℝ := ∑ h ∈ range 1024, ∑ w ∈ range 2048, if I h w = k then S h w else 0

/-- A class's weight from its count, at the two exponents. -/
def wgtR (p q n : ℝ) : ℝ := 1 / max (n ^ p * (2097152 : ℝ) ^ q) 1

/-- The loss, summed over the classes. -/
def lossR (p q : ℝ) (I : ℕ → ℕ → ℕ) (S : ℕ → ℕ → ℝ) : ℝ := (∑ k ∈ range 19, wgtR p q (cntR I k) * sumR I S k) / 19

/-- A class count is not negative. -/
theorem cntR_nonneg (I : ℕ → ℕ → ℕ) (k : ℕ) : 0 ≤ cntR I k :=
  sum_nonneg fun _ _ => sum_nonneg fun _ _ => by split <;> norm_num

/-- The counts of all classes come to the number of pixels. -/
theorem sum_cntR (I : ℕ → ℕ → ℕ) (hI : ∀ h w, I h w < 19) : ∑ k ∈ range 19, cntR I k = 2097152 := by
  unfold cntR
  rw [sum_comm]
  have : ∀ h, ∑ k ∈ range 19, ∑ w ∈ range 2048, (if I h w = k then (1 : ℝ) else 0) = 2048 := by
    intro h
    rw [sum_comm]
    have : ∀ w, ∑ k ∈ range 19, (if I h w = k then (1 : ℝ) else 0) = 1 := fun w => by
      rw [sum_ite_eq, if_pos (mem_range.mpr (hI h w))]
    rw [sum_congr (rfl : range 2048 = range 2048) (fun w _ => this w), sum_const, card_range]; norm_num
  rw [sum_congr (rfl : range 1024 = range 1024) (fun h _ => this h), sum_const, card_range]; norm_num

/-- Weighting each pixel by its class's weight and summing over the pixels gives the sum over the classes. -/
theorem sum_weighted (I : ℕ → ℕ → ℕ) (S : ℕ → ℕ → ℝ) (hI : ∀ h w, I h w < 19) (v : ℕ → ℝ) :
    ∑ h ∈ range 1024, ∑ w ∈ range 2048, v (I h w) * S h w = ∑ k ∈ range 19, v k * sumR I S k := by
  unfold sumR
  simp only [mul_sum]
  refine Eq.symm (sum_comm.trans (sum_congr rfl fun h _ => sum_comm.trans (sum_congr rfl fun w _ => ?_)))
  simp only [mul_ite, mul_zero]
  rw [sum_ite_eq, if_pos (mem_range.mpr (hI h w))]

end Cert.Loss

end
-- ==== Proof.Words.lean ====
/- The programs' float words as reals, and the ideal operations on reals. -/
module

public import proofs.«01_k».proof.Proof.LossMath
public import Idealize.ShloMosaic.PureOps.Ideal.Laws

@[expose] public section

noncomputable section

namespace Cert.Loss

open Idealize.ShloMosaic Finset

/-- The exponent of the class count: the float nearest 0.2. -/
def pW : ℝ := 13421773 / 67108864
/-- The exponent of the number of pixels: the float nearest 0.8. -/
def qW : ℝ := 13421773 / 16777216

/-- The small exponent is not zero. -/
theorem pW_ne : pW ≠ 0 := by unfold pW; norm_num
/-- The float word of the small exponent. -/
theorem word_p : Ideal.ofBits .f32 0x3E4CCCCD#32 = ((pW : ℝ) : EReal) := by
  simp [Ideal.ofBits, Ideal.ieee, pW]
  rw [← EReal.coe_mul]
  norm_num
/-- The float word of the large exponent. -/
theorem word_q : Ideal.ofBits .f32 0x3F4CCCCD#32 = ((qW : ℝ) : EReal) := by
  simp [Ideal.ofBits, Ideal.ieee, qW]
  rw [← EReal.coe_mul]
  norm_num
/-- The float word of nineteen. -/
theorem word_19 : Ideal.ofBits .f32 0x41980000#32 = ((19 : ℝ) : EReal) := by
  simp [Ideal.ofBits, Ideal.ieee]
  rw [← EReal.coe_mul]
  norm_num
/-- The float word of one. -/
theorem word_1 : Ideal.ofBits .f32 0x3F800000#32 = ((1 : ℝ) : EReal) := by
  simp [Ideal.ofBits, Ideal.ieee]
  rw [← EReal.coe_mul, ← EReal.coe_one]
  norm_num
/-- The float word of zero. -/
theorem word_0 : Ideal.ofBits .f32 0x00000000#32 = ((0 : ℝ) : EReal) := by
  rw [Ideal.ofBits_zero_f32]; rfl
/-- The float word of minus one. -/
theorem word_m1 : Ideal.ofBits .f32 0xBF800000#32 = ((-1 : ℝ) : EReal) := by
  simp [Ideal.ofBits, Ideal.ieee]
  rw [← EReal.coe_mul, ← EReal.coe_one]
  norm_num

/-- The ideal quotient of two reals, the divisor not zero. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The larger of two reals. -/
theorem max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A class's weight, from its count. -/
theorem weight_real (a b : ℝ) (n : ℝ) (ha : a = n ^ pW) (hb : b = (2097152 : ℝ) ^ qW) :
    Ideal.div ((1 : ℝ) : EReal) (max ((a : EReal) * (b : EReal)) ((1 : ℝ) : EReal)) = ((wgtR pW qW n : ℝ) : EReal) := by
  have h : (0 : ℝ) < max (a * b) 1 := lt_of_lt_of_le one_pos (le_max_right _ _)
  rw [← EReal.coe_mul, max_real, div_real _ _ h.ne', ha, hb]
  rfl

end Cert.Loss

end
-- ==== Proof.TileValue.lean ====
/- What the kernel computes on one tile, and over the tiles of a grid point, at one lane and over the reals. -/
module

public import proofs.«01_k».proof.Proof.Model
public import proofs.«01_k».proof.Proof.LossMath
public import Idealize.ShloMosaic.Lib.Pointwise

@[expose] public section

set_option maxRecDepth 16384

noncomputable section

namespace Cert.KernelIdeal.Gen

open Idealize.ShloMosaic Idealize.ShloMosaic.TcCoe Cert.Loss Finset

/-- A select on "the first is greater" of two reals. -/
theorem select_gt {α : Type} (a b : ℝ) (u v : α) :
    Scalar.select (FloatOps.cmpf (F := Ideal) (φ := .f32) .ogt (a : EReal) (b : EReal)) u v = if b < a then u else v := by
  show (if BitVec.ofBool (decide ((b : EReal) < (a : EReal))) = 1 then u else v) = _
  by_cases h : b < a
  · rw [if_pos h, decide_eq_true (EReal.coe_lt_coe_iff.mpr h)]; rfl
  · rw [if_neg h, decide_eq_false (fun q => h (EReal.coe_lt_coe_iff.mp q))]; rfl

/-- A select on the equality of two class words. -/
theorem select_eq {α : Type} (a b : ℕ) (ha : a < 19) (hb : b < 19) (u v : α) :
    Scalar.select (IntOp.cmpi .eq (BitVec.ofNat 32 a) (BitVec.ofNat 32 b)) u v = if a = b then u else v := by
  show (if BitVec.ofBool (BitVec.ofNat 32 a == BitVec.ofNat 32 b) = 1 then u else v) = _
  by_cases h : a = b
  · subst h; rw [if_pos rfl, beq_self_eq_true]; rfl
  · have : BitVec.ofNat 32 a ≠ BitVec.ofNat 32 b := fun q => h (by
      have := congrArg BitVec.toNat q
      rw [BitVec.toNat_ofNat, BitVec.toNat_ofNat] at this
      omega)
    rw [if_neg h, beq_false_of_ne this]; rfl

/-- The logarithm of a positive real is a real. -/
theorem log_coe_pos {r : ℝ} (h : 0 < r) : Ideal.log (r : EReal) = ((Real.log r : ℝ) : EReal) := by
  show (if r ≤ 0 then (⊥ : EReal) else _) = _
  rw [if_neg (not_le.mpr h)]

/-- A sum of exponentials is positive. -/
theorem sum_exp_pos (r : ℕ → ℝ) (M : ℝ) (n : ℕ) : 0 < ∑ c ∈ range (n + 1), Real.exp (r c - M) :=
  Finset.sum_pos (fun _ _ => Real.exp_pos _) ⟨0, mem_range.mpr (Nat.succ_pos n)⟩

section Pixel
variable (x t : ℕ → FVec Ideal S8x512 .f32) (r s : ℕ → ℝ) (j : S8x512.Idx)
  (hx : ∀ k, x k j = (r k : EReal)) (ht : ∀ k, t k j = (s k : EReal))
include hx

/-- The running maximum. -/
theorem mxAt_real (n : ℕ) : mxAt x n j = (mR r n : EReal) := by
  induction n with
  | zero => exact hx 0
  | succ n ih =>
    show Scalar.select (FloatOps.cmpf .ogt (x (n + 1) j) (mxAt x n j)) (x (n + 1) j) (mxAt x n j) = _
    rw [hx, ih, select_gt, mR_succ]
    split <;> rfl

/-- The class of the running maximum. -/
theorem ixAt_real (n : ℕ) : ixAt x n j = BitVec.ofNat 32 (iR r n) := by
  induction n with
  | zero => rfl
  | succ n ih =>
    show Scalar.select (FloatOps.cmpf .ogt (x (n + 1) j) (mxAt x n j)) (BitVec.ofNat 32 (n + 1)) (ixAt x n j) = _
    rw [hx, mxAt_real x r j hx, ih, select_gt, iR_succ]
    split <;> rfl

/-- The sum of the exponentials. -/
theorem esAt_real (M : FVec Ideal S8x512 .f32) (v : ℝ) (hM : M j = (v : EReal)) (n : ℕ) :
    esAt x M n j = ((∑ c ∈ range (n + 1), Real.exp (r c - v) : ℝ) : EReal) := by
  have e : ∀ k, exp (subf (x k) M) j = ((Real.exp (r k - v) : ℝ) : EReal) := fun k => by
    show Ideal.exp (x k j - M j) = _
    rw [hx, hM, ← EReal.coe_sub]; rfl
  induction n with
  | zero => rw [sum_range_one]; exact e 0
  | succ n ih =>
    rw [sum_range_succ, EReal.coe_add, ← ih, ← e (n + 1)]; rfl

include ht

/-- The sum of the targets. -/
theorem tsAt_real (n : ℕ) : tsAt t n j = ((∑ c ∈ range (n + 1), s c : ℝ) : EReal) := by
  induction n with
  | zero => rw [sum_range_one]; exact ht 0
  | succ n ih =>
    rw [sum_range_succ, EReal.coe_add, ← ih, ← ht (n + 1)]; rfl

/-- The sum of logit times target. -/
theorem xtAt_real (n : ℕ) : xtAt x t n j = ((∑ c ∈ range (n + 1), r c * s c : ℝ) : EReal) := by
  induction n with
  | zero => rw [sum_range_one, EReal.coe_mul, ← hx 0, ← ht 0]; rfl
  | succ n ih =>
    rw [sum_range_succ, EReal.coe_add, ← ih, EReal.coe_mul, ← hx (n + 1), ← ht (n + 1)]; rfl

/-- The pixel's cross entropy. -/
theorem sAt_real : sAt x t j = ((sR r s : ℝ) : EReal) := by
  show (Ideal.log (esAt x (mxAt x 18) 18 j) + mxAt x 18 j) * tsAt t 18 j - xtAt x t 18 j = _
  rw [mxAt_real x r j hx, esAt_real x r j hx _ _ (mxAt_real x r j hx 18), tsAt_real x t r s j hx ht, xtAt_real x t r s j hx ht,
    log_coe_pos (sum_exp_pos r _ 18), ← EReal.coe_add, ← EReal.coe_mul, ← EReal.coe_sub]
  rfl

end Pixel

section Point
variable (X T : ℕ → ℕ → FVec Ideal S8x512 .f32) (r s : ℕ → ℕ → ℝ) (j : S8x512.Idx)
  (hX : ∀ p k, X p k j = (r p k : EReal)) (hT : ∀ p k, T p k j = (s p k : EReal))
include hX

/-- The number of tiles whose pixel has class `k`. -/
theorem cntAt_real (k : ℕ) (hk : k < 19) (n : ℕ) :
    cntAt X k n j = ((∑ p ∈ range n, (if iR (r p) 18 = k then 1 else 0) : ℝ) : EReal) := by
  induction n with
  | zero => rw [range_zero, sum_empty]; exact Ideal.ofBits_zero_f32
  | succ n ih =>
    show cntAt X k n j + Scalar.select (IntOp.cmpi .eq (ixAt (X n) 18 j) (BitVec.ofNat 32 k)) (Ideal.ofBits .f32 0x3F800000#32) (Ideal.ofBits .f32 0x00000000#32) = _
    rw [ih, ixAt_real (X n) (r n) j (hX n), select_eq _ _ (Nat.lt_succ_of_le (iR_le _ _)) hk, sum_range_succ, EReal.coe_add,
      Ideal.ofBits_zero_f32, Ideal.ofBits_one_f32]
    split <;> rfl

include hT

/-- The cross entropy summed over the tiles whose pixel has class `k`. -/
theorem ssAt_real (k : ℕ) (hk : k < 19) (n : ℕ) :
    ssAt X T k n j = ((∑ p ∈ range n, (if iR (r p) 18 = k then sR (r p) (s p) else 0) : ℝ) : EReal) := by
  induction n with
  | zero => rw [range_zero, sum_empty]; exact Ideal.ofBits_zero_f32
  | succ n ih =>
    show ssAt X T k n j + Scalar.select (IntOp.cmpi .eq (ixAt (X n) 18 j) (BitVec.ofNat 32 k)) (sAt (X n) (T n) j) (Ideal.ofBits .f32 0x00000000#32) = _
    rw [ih, ixAt_real (X n) (r n) j (hX n), select_eq _ _ (Nat.lt_succ_of_le (iR_le _ _)) hk, sum_range_succ, EReal.coe_add,
      Ideal.ofBits_zero_f32, sAt_real (X n) (T n) (r n) (s n) j (hX n) (hT n)]
    split <;> rfl

end Point

end Cert.KernelIdeal.Gen

end
-- ==== Proof.KernFinal.lean ====
/- The last grid point's loss over the reals. -/
module
public import proofs.«01_k».proof.Proof.Gen.KernelIdeal.Skeleton
public import proofs.«01_k».proof.Proof.Words
public import proofs.«01_k».proof.Proof.TileValue
public import Idealize.ShloMosaic.Lib.Pointwise
public import Idealize.ShloMosaic.Lib.Pipeline.ValueKit
@[expose] public section
set_option maxRecDepth 16384
noncomputable section
namespace Cert.KernelIdeal.Gen
open Cert.KernelIdeal Idealize.ShloMosaic Idealize.ShloMosaic.TcCoe Cert.Loss Finset

section
variable {F : FTy → Type} [FloatOps F]

/-- Each slab summed over its lanes. -/
def kSlabs (v : Vec F S19x8x512 .f32) : FVec F S19 .f32 :=
  multiReduction .add [1, 2] S19 v 0x00000000#32 reduces_S19x8x512_S19 (.inl rfl) rfl

/-- Nineteen numbers summed. -/
def kTotal (w : FVec F S19 .f32) : F .f32 :=
  extractAt ![0, 0] (shapeCast S1x1 (multiReduction .add [1] S1 (shapeCast S1x19 w shapeCasts_S19_S1x19) 0x00000000#32 reduces_S1x19_S1 (.inl rfl) rfl) shapeCasts_S1_S1x1) inpos_S1x1_p0_0

/-- A class count to the first exponent, zero for an empty class. -/
def kPow (n : FVec F S19 .f32) : FVec F S19 .f32 :=
  select (cmpf .ogt n (broadcast S19 (Scalar.ofBits .f32 0x00000000#32))) (exp (mulf (broadcast S19 (Scalar.ofBits .f32 0x3E4CCCCD#32)) (log n)))
    (broadcast S19 (Scalar.ofBits .f32 0x00000000#32))

/-- The class weights from the counts to the first exponent and the total to the second. -/
def kWeights (w : FVec F S19 .f32) (t : F .f32) : FVec F S19 .f32 :=
  divf (broadcast S19 (Scalar.ofBits .f32 0x3F800000#32)) (maximumf (mulf w (broadcast S19 t)) (broadcast S19 (Scalar.ofBits .f32 0x3F800000#32)))

/-- The total to the second exponent. -/
def kTpow (t : F .f32) : F .f32 := Scalar.exp (Scalar.mulf (Scalar.ofBits .f32 0x3F4CCCCD#32) (Scalar.log t))

/-- The last point's value is the weighted sum of the loss sums over the number of classes. -/
theorem k0_pay4_def (u v : Vec F S19x8x512 .f32) :
    k0_pay4 u v = broadcast S1x1 (Scalar.divf (kTotal (mulf (kWeights (kPow (kSlabs u)) (kTpow (kTotal (kSlabs u)))) (kSlabs v))) (Scalar.ofBits .f32 0x41980000#32)) := rfl
end

/-- A slab's sum over its lanes. -/
theorem kSlabs_at (v : FVec Ideal S19x8x512 .f32) (k : Fin 19) : kSlabs v (ix1 k) = ∑ a : Fin 8, ∑ b : Fin 512, (v (ix3 k a b) : EReal) := by
  have e : ∀ (n : Fin 19) (a : Fin 8) (b : Fin 512), reduces_S19x8x512_S19.drop (ix3 n a b) = ix1 n := fun n a b => by
    funext c; match c with | ⟨0, _⟩ => rfl
  show ∑ i ∈ Finset.univ.filter (fun i => reduces_S19x8x512_S19.drop i = ix1 k), (v i : EReal) = _
  rw [Finset.sum_filter, sum_idx3]
  have e2 : ∀ n : Fin 19, (∑ a : Fin 8, ∑ b : Fin 512, if reduces_S19x8x512_S19.drop (ix3 n a b) = ix1 k then (v (ix3 n a b) : EReal) else 0)
      = if n = k then (∑ a : Fin 8, ∑ b : Fin 512, (v (ix3 n a b) : EReal)) else 0 := fun n => by
    by_cases h : n = k
    · rw [if_pos h]
      refine Finset.sum_congr rfl fun a _ => Finset.sum_congr rfl fun b _ => if_pos ?_
      rw [e, h]
    · rw [if_neg h]
      refine Finset.sum_eq_zero fun a _ => Finset.sum_eq_zero fun b _ => if_neg ?_
      rw [e]
      exact fun q => h (congrFun q 0)
  rw [Finset.sum_congr rfl fun n _ => e2 n, Finset.sum_ite_eq' Finset.univ k, if_pos (Finset.mem_univ k)]

/-- The sum of nineteen numbers. -/
theorem kTotal_at (w : FVec Ideal S19 .f32) : kTotal w = ∑ k : Fin 19, (w (ix1 k) : EReal) := by
  have h := Ideal.multiReduction_add_total (shapeCast S1x19 w shapeCasts_S19_S1x19) 0x00000000#32 reduces_S1x19_S1 (fun b => by match b with | ⟨0, _⟩ => rfl) (.inl rfl) rfl (ix1 0)
  have e : kTotal w = multiReduction .add [1] S1 (shapeCast S1x19 w shapeCasts_S19_S1x19) 0x00000000#32 reduces_S1x19_S1 (.inl rfl) rfl (ix1 0) := by
    delta kTotal
    generalize multiReduction .add [1] S1 (shapeCast S1x19 w shapeCasts_S19_S1x19) 0x00000000#32 reduces_S1x19_S1 (.inl rfl) rfl = Z
    refine congrArg Z ?_
    funext a
    apply Fin.ext
    match a with
    | ⟨0, _⟩ => exact (Nat.lt_one_iff.mp (Fin.isLt _))
  rw [e, h, sum_idx2, Fin.sum_univ_one]
  refine Finset.sum_congr rfl fun k _ => ?_
  refine (shapeCast_addUnit_apply _ _ _ _).trans (congrArg w ?_)
  funext a
  match a with
  | ⟨0, _⟩ => rfl

/-- A count to the first exponent, over the reals. -/
theorem kPow_at (n : FVec Ideal S19 .f32) (k : Fin 19) (r : ℝ) (hr : 0 ≤ r) (h : n (ix1 k) = (r : EReal)) :
    kPow n (ix1 k) = ((r ^ pW : ℝ) : EReal) := by
  show Scalar.select (FloatOps.cmpf (F := Ideal) (φ := .f32) .ogt (n (ix1 k)) (Ideal.ofBits .f32 0x00000000#32))
    (Ideal.exp (Ideal.ofBits .f32 0x3E4CCCCD#32 * Ideal.log (n (ix1 k)))) (Ideal.ofBits .f32 0x00000000#32) = _
  rw [h, word_0, select_gt]
  by_cases h0 : 0 < r
  · rw [if_pos h0, word_p, log_coe_pos h0, ← EReal.coe_mul]
    show ((Real.exp (pW * Real.log r) : ℝ) : EReal) = _
    rw [Real.rpow_def_of_pos h0, mul_comm]
  · rw [if_neg h0, le_antisymm (not_lt.mp h0) hr, Real.zero_rpow pW_ne]

/-- The total to the second exponent, over the reals. -/
theorem kTpow_at (t : Ideal .f32) (h : t = ((2097152 : ℝ) : EReal)) : kTpow t = (((2097152 : ℝ) ^ qW : ℝ) : EReal) := by
  have p : (0 : ℝ) < 2097152 := by norm_num
  show Ideal.exp (Ideal.ofBits .f32 0x3F4CCCCD#32 * Ideal.log t) = _
  rw [h, word_q, log_coe_pos p, ← EReal.coe_mul]
  show ((Real.exp (qW * Real.log 2097152) : ℝ) : EReal) = _
  rw [Real.rpow_def_of_pos p, mul_comm]

/-- A sum of reals over the classes. -/
theorem sum19 (f : Fin 19 → EReal) (g : ℕ → ℝ) (h : ∀ k, f k = ((g k.val : ℝ) : EReal)) : ∑ k, f k = ((∑ k ∈ range 19, g k : ℝ) : EReal) := by
  rw [Finset.sum_congr rfl fun k _ => h k, ← Fin.sum_univ_eq_sum_range g 19]
  norm_cast

/-- The last point's value, from the class counts and the loss sums. -/
theorem pay4_real (u v : FVec Ideal S19x8x512 .f32) (I : ℕ → ℕ → ℕ) (S : ℕ → ℕ → ℝ) (hI : ∀ h w, I h w < 19)
    (hu : ∀ k : Fin 19, (kSlabs (F := Ideal) u (ix1 k) : EReal) = ((cntR I k.val : ℝ) : EReal)) (hv : ∀ k : Fin 19, (kSlabs (F := Ideal) v (ix1 k) : EReal) = ((sumR I S k.val : ℝ) : EReal)) (j : S1x1.Idx) :
    k0_pay4 (F := Ideal) u v j = ((lossR pW qW I S : ℝ) : EReal) := by
  rw [k0_pay4_def]
  generalize kSlabs (F := Ideal) u = n at hu ⊢
  generalize kSlabs (F := Ideal) v = s at hv ⊢
  have ht : kTotal n = ((2097152 : ℝ) : EReal) := by
    rw [kTotal_at, sum19 _ _ hu, sum_cntR I hI]
  show Ideal.div (kTotal (mulf (kWeights (kPow n) (kTpow (kTotal n))) s)) (Ideal.ofBits .f32 0x41980000#32) = _
  have hw : ∀ k : Fin 19, (mulf (kWeights (kPow n) (kTpow (kTotal n))) s (ix1 k) : EReal) = ((wgtR pW qW (cntR I k.val) * sumR I S k.val : ℝ) : EReal) := fun k => by
    have e : mulf (kWeights (kPow n) (kTpow (kTotal n))) s (ix1 k)
        = Ideal.div (Ideal.ofBits .f32 0x3F800000#32) (max (kPow n (ix1 k) * kTpow (kTotal n)) (Ideal.ofBits .f32 0x3F800000#32)) * s (ix1 k) := rfl
    rw [e, word_1, kPow_at n k _ (cntR_nonneg I k.val) (hu k), kTpow_at _ ht, weight_real _ _ (cntR I k.val) rfl rfl, hv k, ← EReal.coe_mul]
  rw [kTotal_at, sum19 _ (fun k => wgtR pW qW (cntR I k) * sumR I S k) hw, word_19, div_real _ _ (by norm_num)]
  rfl

end Cert.KernelIdeal.Gen
-- ==== Proof.Argmax.lean ====
/- The reference's stages over the reals: the class of a pixel, the log softmax, the counts, the weights and the loss. -/
module

public import proofs.«01_k».proof.Proof.RefRun
public import proofs.«01_k».proof.Proof.LossMath
public import Idealize.ShloMosaic.Lib.Pointwise
public import Idealize.ShloMosaic.Lib.Routing.OpsPair
public import Idealize.ShloMosaic.PureOps.Ideal.Laws

@[expose] public section

set_option maxRecDepth 16384

noncomputable section

namespace Cert.ReferenceIdeal.Hand

open Cert.ReferenceIdeal Cert.ReferenceIdeal.Gen Idealize.ShloMosaic Idealize.ShloMosaic.TcCoe Cert.Loss Finset

/-- One pixel's values over the classes. -/
def px (x : S1x19x1024x2048.Idx → ℝ) (h w c : ℕ) : ℝ :=
  x (ix4 0 ⟨c % 19, Nat.mod_lt _ (by decide)⟩ ⟨h % 1024, Nat.mod_lt _ (by decide)⟩ ⟨w % 2048, Nat.mod_lt _ (by decide)⟩)

/-- A score at an index is the pixel's score of the class. -/
theorem px_at (x : S1x19x1024x2048.Idx → ℝ) (c : Fin 19) (h : Fin 1024) (w : Fin 2048) : x (ix4 0 c h w) = px x h.val w.val c.val := by
  unfold px
  congr 1
  congr 1 <;> apply Fin.ext <;> exact (Nat.mod_eq_of_lt (Fin.isLt _)).symm

/-- A finite sum of reals, as extended reals. -/
theorem sum_fin_coe (n : ℕ) (f : ℕ → ℝ) : ∑ k : Fin n, ((f k.val : ℝ) : EReal) = ((∑ k ∈ range n, f k : ℝ) : EReal) := by
  induction n with
  | zero => simp
  | succ n ih => rw [Fin.sum_univ_castSucc, sum_range_succ, EReal.coe_add, ← ih]; rfl

/-! ### The class of a pixel -/

/-- The reducer on two pairs of a real logit and a class: the greater logit's pair, the smaller class at a tie. -/
theorem reducer_real (a b : ℝ) (i j : ℕ) (hi : i < 19) (hj : j < 19) :
    reducer_argmax_f32_i32 (F := Ideal) ((a : EReal), BitVec.ofNat 32 i) ((b : EReal), BitVec.ofNat 32 j)
      = if b < a ∨ (a = b ∧ i < j) then ((a : EReal), BitVec.ofNat 32 i) else ((b : EReal), BitVec.ofNat 32 j) := by
  have h1 : (FloatOps.cmpf (F := Ideal) (φ := .f32) .ogt (a : EReal) (b : EReal)) = BitVec.ofBool (decide (b < a)) := by
    show BitVec.ofBool (decide ((b : EReal) < (a : EReal))) = _
    simp only [EReal.coe_lt_coe_iff]
  have h2 : (FloatOps.cmpf (F := Ideal) (φ := .f32) .une (a : EReal) (a : EReal)) = 0#1 := by
    show BitVec.ofBool (decide ((a : EReal) ≠ (a : EReal))) = _
    simp
  have h3 : (FloatOps.cmpf (F := Ideal) (φ := .f32) .oeq (a : EReal) (b : EReal)) = BitVec.ofBool (decide (a = b)) := by
    show BitVec.ofBool (decide ((a : EReal) = (b : EReal))) = _
    simp only [EReal.coe_eq_coe_iff]
  have h4 : IntOp.cmpi .slt (BitVec.ofNat 32 i) (BitVec.ofNat 32 j) = BitVec.ofBool (decide (i < j)) := by
    show BitVec.ofBool ((BitVec.ofNat 32 i).slt (BitVec.ofNat 32 j)) = _
    congr 1
    interval_cases i <;> interval_cases j <;> rfl
  unfold reducer_argmax_f32_i32
  simp only [h1, h2, h3, h4]
  rcases lt_trichotomy a b with h | h | h
  · have n1 : ¬ b < a := not_lt.mpr h.le
    have n2 : ¬ a = b := h.ne
    simp only [n1, n2, decide_false, false_and, or_false, if_false]
    generalize decide (i < j) = z
    cases z <;> rfl
  · subst h
    have n1 : ¬ a < a := lt_irrefl _
    by_cases q : i < j
    · simp only [n1, q, decide_false, decide_true, true_and, or_true, if_true]; rfl
    · simp only [n1, q, decide_false, decide_true, and_false, or_false, if_false]; rfl
  · have n2 : ¬ a = b := h.ne'
    simp only [h, n2, decide_false, decide_true, false_and, or_false, if_true]
    generalize decide (i < j) = z
    cases z <;> rfl

/-- The reducer from the initial pair takes the other. -/
theorem reducer_bot (b : ℝ) (y : BitVec 32) :
    reducer_argmax_f32_i32 (F := Ideal) ((⊥ : EReal), 0#32) ((b : EReal), y) = ((b : EReal), y) := by
  have h1 : (FloatOps.cmpf (F := Ideal) (φ := .f32) .ogt (⊥ : EReal) (b : EReal)) = 0#1 := by
    show BitVec.ofBool (decide ((b : EReal) < ⊥)) = _
    simp
  have h2 : (FloatOps.cmpf (F := Ideal) (φ := .f32) .une (⊥ : EReal) (⊥ : EReal)) = 0#1 := by
    show BitVec.ofBool (decide ((⊥ : EReal) ≠ ⊥)) = _
    simp
  have h3 : (FloatOps.cmpf (F := Ideal) (φ := .f32) .oeq (⊥ : EReal) (b : EReal)) = 0#1 := by
    show BitVec.ofBool (decide ((⊥ : EReal) = (b : EReal))) = _
    simp
  unfold reducer_argmax_f32_i32
  simp only [h1, h2, h3]
  generalize IntOp.cmpi .slt 0#32 y = z
  have hz : IntOp.ori (IntOp.ori 0#1 0#1) (IntOp.andi 0#1 z) = 0#1 := by
    show (0#1 ||| 0#1) ||| (0#1 &&& z) = 0#1
    simp
  rw [hz]
  rfl

/-- The fold from a pair already taken: a class seen, whose logit is the largest, the first such. -/
theorem fold_from (r : ℕ → ℝ) (L : List ℕ) (hL : ∀ c ∈ L, c < 19) (i : ℕ) (hi : i < 19) :
    ∃ k, k ∈ i :: L ∧ (∀ c ∈ i :: L, r c ≤ r k) ∧ (∀ c ∈ i :: L, r c = r k → k ≤ c)
      ∧ (L.map fun c => ((r c : EReal), BitVec.ofNat 32 c)).foldl (reducer_argmax_f32_i32 (F := Ideal)) ((r i : EReal), BitVec.ofNat 32 i)
        = ((r k : EReal), BitVec.ofNat 32 k) := by
  induction L generalizing i with
  | nil => exact ⟨i, by simp, by simp, by simp, rfl⟩
  | cons c L ih =>
    have hc : c < 19 := hL c (by simp)
    have hL' : ∀ d ∈ L, d < 19 := fun d hd => hL d (by simp [hd])
    rw [List.map_cons, List.foldl_cons, reducer_real _ _ _ _ hi hc]
    by_cases q : r c < r i ∨ (r i = r c ∧ i < c)
    · rw [if_pos q]
      obtain ⟨k, hk, hmax, hfst, e⟩ := ih hL' i hi
      have hik : r i ≤ r k := hmax i (by simp)
      have hci : r c ≤ r i := q.elim le_of_lt fun q => q.1.ge
      refine ⟨k, ?_, ?_, ?_, e⟩
      · rcases List.mem_cons.mp hk with rfl | hk
        · simp
        · simp [hk]
      · intro d hd
        rcases List.mem_cons.mp hd with rfl | hd
        · exact hik
        · rcases List.mem_cons.mp hd with rfl | hd
          · exact hci.trans hik
          · exact hmax d (by simp [hd])
      · intro d hd ed
        rcases List.mem_cons.mp hd with rfl | hd
        · exact hfst _ (by simp) ed
        · rcases List.mem_cons.mp hd with rfl | hd
          · have : r i = r k := le_antisymm hik (ed ▸ hci)
            have h1 := hfst i (by simp) this
            rcases q with q | q
            · exact absurd q (not_lt.mpr (by rw [ed]; exact hik))
            · omega
          · exact hfst d (by simp [hd]) ed
    · rw [if_neg q]
      obtain ⟨k, hk, hmax, hfst, e⟩ := ih hL' c hc
      have hck : r c ≤ r k := hmax c (by simp)
      have hic : r i ≤ r c := not_lt.mp fun h => q (.inl h)
      refine ⟨k, by simp only [List.mem_cons] at hk ⊢; tauto, ?_, ?_, e⟩
      · intro d hd
        rcases List.mem_cons.mp hd with rfl | hd
        · exact hic.trans hck
        · exact hmax d hd
      · intro d hd ed
        rcases List.mem_cons.mp hd with rfl | hd
        · have : r c = r k := le_antisymm hck (ed ▸ hic)
          have h1 := hfst c (by simp) this
          by_contra h2
          exact q (.inr ⟨ed.trans this.symm, by omega⟩)
        · exact hfst d hd ed

/-- The fold over a list that holds every class, from the initial pair: the first class with the largest logit. -/
theorem fold_all (r : ℕ → ℝ) (L : List ℕ) (hL : ∀ c, c ∈ L ↔ c < 19) :
    ((L.map fun c => ((r c : EReal), BitVec.ofNat 32 c)).foldl (reducer_argmax_f32_i32 (F := Ideal)) ((⊥ : EReal), 0#32)).2
      = BitVec.ofNat 32 (iR r 18) := by
  cases L with
  | nil => exact absurd ((hL 0).mpr (by decide)) (by simp)
  | cons i L =>
    rw [List.map_cons, List.foldl_cons, reducer_bot]
    obtain ⟨k, hk, hmax, hfst, e⟩ := fold_from r L (fun c hc => (hL c).mp (by simp [hc])) i ((hL i).mp (by simp))
    rw [e]
    have hk := (hL k).mp hk
    exact congrArg (BitVec.ofNat 32) (iR_unique r 18 k (by omega) (fun c hc => hmax c ((hL c).mpr (by omega))) (fun c hc => hfst c ((hL c).mpr (by omega))))

end Cert.ReferenceIdeal.Hand

end
-- ==== Proof.KernValue.lean ====
/- The kernel's result over the reals. -/
module
public import proofs.«01_k».proof.Proof.KernChain
public import proofs.«01_k».proof.Proof.KernBlock
public import proofs.«01_k».proof.Proof.KernTail
public import proofs.«01_k».proof.Proof.KernFinal
public import proofs.«01_k».proof.Proof.Argmax
@[expose] public section
set_option maxRecDepth 16384
noncomputable section
namespace Cert.KernelIdeal.Gen
open Cert.KernelIdeal Idealize.ShloMosaic Idealize.ShloMosaic.TcCoe Idealize.SL.Sem Cert.Loss Finset
open Cert.ReferenceIdeal.Hand (px sum_fin_coe)

/-- The row of the pixel at lane row `a` of tile `p` of point `t`. -/
def rowOf (t p a : ℕ) : ℕ := 64 * t + 8 * (p % 32 / 4) + a
/-- The column of the pixel at lane column `b` of tile `p`. -/
def colOf (p b : ℕ) : ℕ := 512 * (p % 4) + b

section Step
variable (xs : Vec Ideal S38x8x512 .f32) (X T : ℕ → ℕ → FVec Ideal S8x512 .f32) (r s : ℕ → ℕ → ℝ) (a : Fin 8) (b : Fin 512)
  (hX : ∀ p k, X p k (ix2 a b) = ((r p k : ℝ) : EReal)) (hT : ∀ p k, T p k (ix2 a b) = ((s p k : ℝ) : EReal)) (k : ℕ) (hk : k < 19)
include hX hk

/-- One point adds the tiles' pixels of a class to the class's count. -/
theorem step_lo (v : ℝ) (h : xs (sIdx k a b) = (v : EReal)) :
    accAt xs X T (sIdx k a b) = ((v + ∑ p ∈ range 32, (if iR (r p) 18 = k then 1 else 0) : ℝ) : EReal) := by
  rw [accAt_lo _ _ _ k hk]
  show (xs (sIdx k a b) : EReal) + cntAt X k 32 (ix2 a b) = _
  rw [h, cntAt_real X r _ hX k hk 32, ← EReal.coe_add]

include hT
/-- One point adds the tiles' losses over the pixels of a class to the class's loss sum. -/
theorem step_hi (v : ℝ) (h : xs (sIdx (19 + k) a b) = (v : EReal)) :
    accAt xs X T (sIdx (19 + k) a b) = ((v + ∑ p ∈ range 32, (if iR (r p) 18 = k then sR (r p) (s p) else 0) : ℝ) : EReal) := by
  rw [accAt_hi _ _ _ k hk]
  show (xs (sIdx (19 + k) a b) : EReal) + ssAt X T k 32 (ix2 a b) = _
  rw [h, ssAt_real X T r s _ hX hT k hk 32, ← EReal.coe_add]
end Step

section Run
variable (m : (ℓ : Loc nD τ sig) → Buf (Elt Ideal) ℓ) (c : Dev nD) (x t : S1x19x1024x2048.Idx → ℝ)
  (hX : ∀ i, (m ((c : Thread nD τ).loc main_arg0) : Vec Ideal S1x19x1024x2048 .f32) i = ((x i : ℝ) : EReal))
  (hT : ∀ i, (m ((c : Thread nD τ).loc main_arg1) : Vec Ideal S1x19x1024x2048 .f32) i = ((t i : ℝ) : EReal))

/-- The index of class `k` at a tile's pixel. -/
theorem ix_px (n : ℕ) (hn : n < 16) (p k : ℕ) (a : Fin 8) (b : Fin 512) (y : S1x19x1024x2048.Idx → ℝ)
    (hr : 64 * n + (8 * (p % 32 / 4) + a.val) < 1024) :
    y (ix4 0 ⟨k % 19, Nat.mod_lt _ (by decide)⟩ ⟨64 * n + (8 * (p % 32 / 4) + a.val), hr⟩ ⟨512 * (p % 4) + b.val, by omega⟩) = px y (rowOf n p a) (colOf p b) k := by
  refine congrArg y ?_
  funext d
  apply Fin.ext
  match d with
  | ⟨0, _⟩ => rfl
  | ⟨1, _⟩ => rfl
  | ⟨2, _⟩ => show 64 * n + (8 * (p % 32 / 4) + a.val) = rowOf n p a % 1024; unfold rowOf; omega
  | ⟨3, _⟩ => show 512 * (p % 4) + b.val = colOf p b % 2048; unfold colOf; omega

include hX in
/-- A score in a tile. -/
theorem tile_0 (n : Fin cfg0.N) (p k : ℕ) (a : Fin 8) (b : Fin 512) :
    tile (iblk m c 0 n : Vec Ideal S19x64x2048 .f32) p k (ix2 a b) = ((px x (rowOf n p a) (colOf p b) k : ℝ) : EReal) := by
  have hn : n.val < 16 := lt_of_lt_of_eq n.isLt N_0
  rw [← ix_px n.val hn p k a b x (by omega), ← hX]
  exact iblk_0 m c n _ _ _ _

include hT in
/-- A target in a tile. -/
theorem tile_1 (n : Fin cfg0.N) (p k : ℕ) (a : Fin 8) (b : Fin 512) :
    tile (iblk m c 1 n : Vec Ideal S19x64x2048 .f32) p k (ix2 a b) = ((px t (rowOf n p a) (colOf p b) k : ℝ) : EReal) := by
  have hn : n.val < 16 := lt_of_lt_of_eq n.isLt N_0
  rw [← ix_px n.val hn p k a b t (by omega), ← hT]
  exact iblk_1 m c n _ _ _ _

/-- The pixels of class `k` among the first `n` points' pixels at a lane. -/
def cntUpTo (n k a b : ℕ) : ℝ := ∑ u ∈ range n, ∑ p ∈ range 32, if iR (px x (rowOf u p a) (colOf p b)) 18 = k then 1 else 0
/-- The losses of the pixels of class `k` among the first `n` points' pixels at a lane. -/
def sumUpTo (n k a b : ℕ) : ℝ := ∑ u ∈ range n, ∑ p ∈ range 32,
  if iR (px x (rowOf u p a) (colOf p b)) 18 = k then sR (px x (rowOf u p a) (colOf p b)) (px t (rowOf u p a) (colOf p b)) else 0

/-- The scratch holds the counts and the loss sums of the first `n` points. -/
def Holds (xs : Vec Ideal S38x8x512 .f32) (n : ℕ) : Prop := ∀ k, k < 19 → ∀ (a : Fin 8) (b : Fin 512),
  xs (sIdx k a b) = ((cntUpTo x n k a b : ℝ) : EReal) ∧ xs (sIdx (19 + k) a b) = ((sumUpTo x t n k a b : ℝ) : EReal)

/-- The zero fill is zero everywhere. -/
theorem zeroS_at (y : S38x8x512.Idx) : zeroS (F := Ideal) y = ((0 : ℝ) : EReal) := word_0

/-- Before the first point nothing is counted. -/
theorem holds_zero : Holds x t zeroS 0 := fun k _ a b => ⟨zeroS_at _, zeroS_at _⟩

include hX hT
/-- One point takes the scratch one point further. -/
theorem holds_step (xs : Vec Ideal S38x8x512 .f32) (n : Fin cfg0.N) (h : Holds x t xs n.val) :
    Holds x t (accAt xs (tile (iblk m c 0 n)) (tile (iblk m c 1 n))) (n.val + 1) := by
  intro k hk a b
  have hx : ∀ p k, tile (iblk m c 0 n : Vec Ideal S19x64x2048 .f32) p k (ix2 a b) = ((px x (rowOf n p a) (colOf p b) k : ℝ) : EReal) := fun p k => tile_0 m c x hX n p k a b
  have ht : ∀ p k, tile (iblk m c 1 n : Vec Ideal S19x64x2048 .f32) p k (ix2 a b) = ((px t (rowOf n p a) (colOf p b) k : ℝ) : EReal) := fun p k => tile_1 m c t hT n p k a b
  refine ⟨(step_lo xs _ _ (fun p k => px x (rowOf n p a) (colOf p b) k) a b hx k hk _ (h k hk a b).1).trans ?_,
    (step_hi xs _ _ (fun p k => px x (rowOf n p a) (colOf p b) k) (fun p k => px t (rowOf n p a) (colOf p b) k) a b hx ht k hk _ (h k hk a b).2).trans ?_⟩
  · exact congrArg _ (sum_range_succ _ _).symm
  · exact congrArg _ (sum_range_succ _ _).symm

/-- The scratch after each point before the last. -/
theorem holds_at (n : ℕ) (hn : n < cfg0.N) (h15 : n < 15) : Holds x t (outsAt0 m c n hn).2 (n + 1) := by
  induction n with
  | zero =>
    have g := holds_step m c x t hX hT zeroS ⟨0, hn⟩ (holds_zero x t)
    rw [← snd_A m c ⟨0, hn⟩ (by norm_num) (by norm_num)] at g
    exact g
  | succ n ih =>
    have g := holds_step m c x t hX hT (outsAt0 m c n (Nat.lt_of_succ_lt hn)).2 ⟨n + 1, hn⟩ (ih _ (by omega))
    have e := snd_B m c ⟨n + 1, hn⟩ (by show ¬(n + 1) % 16 = 0; omega) (by show ¬(n + 1) % 16 = 15; omega)
    simp only [Nat.add_sub_cancel] at e
    rw [e]
    exact g

/-- What the last point stores. -/
theorem last_real (j : S1x1.Idx) : ((outsAt0 m c 15 tLast.isLt).1 : Vec Ideal S1x1 .f32) j
    = ((lossR pW qW (fun h w => iR (px x h w) 18) (fun h w => sR (px x h w) (px t h w)) : ℝ) : EReal) := by
  have g := holds_step m c x t hX hT (outsAt0 m c (tLast.val - 1) (Nat.lt_of_le_of_lt (Nat.sub_le _ _) tLast.isLt)).2 tLast
    (holds_at m c x t hX hT 14 (lt_of_lt_of_eq (by norm_num) N_0.symm) (by norm_num))
  have e := fst_C m c tLast (by decide) (by decide)
  refine (congrFun e j).trans ?_
  generalize accAt (F := Ideal) (outsAt0 m c (tLast.val - 1) (Nat.lt_of_le_of_lt (Nat.sub_le _ _) tLast.isLt)).2 (tile (iblk m c 0 tLast)) (tile (iblk m c 1 tLast)) = A at g ⊢
  refine pay4_real _ _ _ _ (fun h w => Nat.lt_succ_of_le (iR_le _ 18)) (fun k => ?_) (fun k => ?_) j
  · rw [kSlabs_at]
    have q : ∀ (a : Fin 8), (∑ b : Fin 512, (loSlabs A (ix3 k a b) : EReal)) = ((∑ b ∈ range 512, cntUpTo x 16 k a b : ℝ) : EReal) := fun a => by
      rw [← sum_fin_coe]
      exact Finset.sum_congr rfl fun b _ => (g k k.isLt a b).1
    rw [Finset.sum_congr rfl fun a _ => q a, sum_fin_coe 8 (fun a => ∑ b ∈ range 512, cntUpTo x 16 k a b)]
    exact congrArg _ (sum_pixels fun h w => if iR (px x h w) 18 = k.val then 1 else 0)
  · rw [kSlabs_at]
    have q : ∀ (a : Fin 8), (∑ b : Fin 512, (hiSlabs A (ix3 k a b) : EReal)) = ((∑ b ∈ range 512, sumUpTo x t 16 k a b : ℝ) : EReal) := fun a => by
      rw [← sum_fin_coe]
      exact Finset.sum_congr rfl fun b _ => (g k k.isLt a b).2
    rw [Finset.sum_congr rfl fun a _ => q a, sum_fin_coe 8 (fun a => ∑ b ∈ range 512, sumUpTo x t 16 k a b)]
    exact congrArg _ (sum_pixels fun h w => if iR (px x h w) 18 = k.val then sR (px x h w) (px t h w) else 0)
end Run

end Cert.KernelIdeal.Gen
-- ==== Proof.RefClass.lean ====
/- The reference's stages over the reals: the class of a pixel, the log softmax, the counts, the weights and the loss. -/
module

public import proofs.«01_k».proof.Proof.Argmax
public import proofs.«01_k».proof.Proof.LossMath
public import Idealize.ShloMosaic.Lib.Pointwise
public import Idealize.ShloMosaic.Lib.Routing.OpsPair
public import Idealize.ShloMosaic.PureOps.Ideal.Laws

@[expose] public section

set_option maxRecDepth 16384

noncomputable section

namespace Cert.ReferenceIdeal.Hand

open Cert.ReferenceIdeal Cert.ReferenceIdeal.Gen Idealize.ShloMosaic Idealize.ShloMosaic.TcCoe Cert.Loss Finset
/-- An index reduces to a pixel exactly when it has the pixel's row and column. -/
theorem drop_iff (i : S1x19x1024x2048.Idx) (h : Fin 1024) (w : Fin 2048) :
    reducesTo_S1x19x1024x2048_S1x1024x2048_d1.drop i = (ix3 0 h w : S1x1024x2048.Idx) ↔ (i 2).val = h.val ∧ (i 3).val = w.val := by
  have e1 : (reducesTo_S1x19x1024x2048_S1x1024x2048_d1.drop i 1).val = (i 2).val := Shape.ReducesTo.drop_apply_val_of_eq _ i 1 2
  have e2 : (reducesTo_S1x19x1024x2048_S1x1024x2048_d1.drop i 2).val = (i 3).val := Shape.ReducesTo.drop_apply_val_of_eq _ i 2 3
  constructor
  · intro q
    rw [← e1, ← e2, q]
    exact ⟨rfl, rfl⟩
  · rintro ⟨q1, q2⟩
    funext a
    apply Fin.ext
    match a with
    | ⟨0, _⟩ =>
      have l1 : (reducesTo_S1x19x1024x2048_S1x1024x2048_d1.drop i 0).val < 1 := (reducesTo_S1x19x1024x2048_S1x1024x2048_d1.drop i 0).isLt
      exact (show (reducesTo_S1x19x1024x2048_S1x1024x2048_d1.drop i 0).val = 0 by omega)
    | ⟨1, _⟩ => exact e1.trans q1
    | ⟨2, _⟩ => exact e2.trans q2

/-- The fold over a pixel's fiber, for any listing of the indices. -/
theorem fiber_fold (X : FVec Ideal S1x19x1024x2048 .f32) (x : S1x19x1024x2048.Idx → ℝ) (hX : ∀ i, X i = ((x i : ℝ) : EReal))
    (h : Fin 1024) (w : Fin 2048) (N : ℕ) (e : S1x19x1024x2048.Idx ≃ Fin N) (L : List (Fin N)) (hL : ∀ n, n ∈ L) (a : EReal) (ha : a = ⊥) (b : BitVec 32) (hb : b = 0#32)
    (P : Fin N → Bool) (hP : ∀ n, P n = true ↔ ((e.symm n) 2).val = h.val ∧ ((e.symm n) 3).val = w.val)
    (f : Fin N → Ideal .f32 × BitVec 32) (hf : ∀ n, f n = (X (e.symm n), BitVec.ofNat 32 ((e.symm n) 1).val)) :
    (((L.filter P).map f).foldl (reducer_argmax_f32_i32 (F := Ideal)) (a, b)).2 = BitVec.ofNat 32 (iR (px x h.val w.val) 18) := by
  have hf : (L.filter P).map f = ((L.filter P).map fun n => ((e.symm n) 1).val).map fun c => ((px x h.val w.val c : EReal), BitVec.ofNat 32 c) := by
    rw [List.map_map]
    refine List.map_congr_left fun n hn => ?_
    have hn := (hP n).mp (List.mem_filter.mp hn).2
    refine (hf n).trans ?_
    show ((X (e.symm n) : EReal), BitVec.ofNat 32 ((e.symm n) 1).val) = (((px x h.val w.val ((e.symm n) 1).val : ℝ) : EReal), BitVec.ofNat 32 ((e.symm n) 1).val)
    generalize e.symm n = i at hn ⊢
    refine Prod.ext ?_ rfl
    show X i = ((px x h.val w.val (i 1).val : ℝ) : EReal)
    rw [hX, ← px_at x (i 1) h w]
    refine congrArg (fun z => ((x z : ℝ) : EReal)) ?_
    funext a
    apply Fin.ext
    have l0 : (i 0).val < 1 := (i 0).isLt
    match a with
    | ⟨0, _⟩ => exact (show (i 0).val = 0 by omega)
    | ⟨1, _⟩ => rfl
    | ⟨2, _⟩ => exact hn.1
    | ⟨3, _⟩ => exact hn.2
  rw [hf, ha, hb]
  refine fold_all (px x h.val w.val) _ fun c => ?_
  constructor
  · intro hc
    obtain ⟨n, _, rfl⟩ := List.mem_map.mp hc
    exact ((e.symm n) 1).isLt
  · intro hc
    refine List.mem_map.mpr ⟨e (ix4 0 ⟨c, hc⟩ h w), List.mem_filter.mpr ⟨hL _, (hP _).mpr ?_⟩, ?_⟩
    · rw [Equiv.symm_apply_apply]; exact ⟨rfl, rfl⟩
    · rw [Equiv.symm_apply_apply]; rfl

/-- The reduction over the maximum starts at bottom. -/
theorem init_bot : (constant S_ .f32 0xFF800000#32 : FVec Ideal S_ .f32) (Shape.Idx.first h_S_) = (⊥ : EReal) := by
  show Ideal.ofBits .f32 0xFF800000#32 = ⊥
  simp [Ideal.ofBits, Ideal.ieee]

/-- A two-operand reduction over the classes, at a pixel. -/
theorem reduce2_real (X : FVec Ideal S1x19x1024x2048 .f32) (x : S1x19x1024x2048.Idx → ℝ) (hX : ∀ i, X i = ((x i : ℝ) : EReal)) (Y : IVec S1x19x1024x2048 32)
    (hY : ∀ i, Y i = BitVec.ofNat 32 (i 1).val) (U : FVec Ideal S_ .f32) (hU : U (Shape.Idx.first h_S_) = (⊥ : EReal))
    (V : IVec S_ 32) (hV : V (Shape.Idx.first h_S_) = 0#32) (h : Fin 1024) (w : Fin 2048) :
    (Host.reduce2 (reducer_argmax_f32_i32 (F := Ideal)) X Y U V reducesTo_S1x19x1024x2048_S1x1024x2048_d1 h_S_ (ix3 0 h w)).2 = BitVec.ofNat 32 (iR (px x h.val w.val) 18) := by
  refine (congrArg Prod.snd (Host.reduce2_eq_foldl_fiber (reducer_argmax_f32_i32 (F := Ideal)) X Y U V reducesTo_S1x19x1024x2048_S1x1024x2048_d1 h_S_ (ix3 0 h w))).trans ?_
  unfold Host.argReduceFiber
  refine fiber_fold X x hX h w _ S1x19x1024x2048.rowMajor _ List.mem_finRange _ hU _ hV _ ?_ _ ?_
  · intro n
    exact decide_eq_true_iff.trans (drop_iff _ h w)
  · intro n
    exact Prod.ext rfl (hY _)

/-- The class map's definition, as a pointwise function. -/
theorem rArg_def {F : FTy → Type} [FloatOps F] (X : FVec F S1x19x1024x2048 .f32) : rArg X = fun j => (Host.argReduce reducer_argmax_f32_i32 X (iotaInDim S1x19x1024x2048 32 1) (constant S_ .f32 0xFF800000#32) (constantI S_ 32 0#32) reducesTo_S1x19x1024x2048_S1x1024x2048_d1 h_S_ j).2 := rfl

/-- A two-operand arg-max reduction over the classes, at a pixel. -/
theorem argReduce_real (X : FVec Ideal S1x19x1024x2048 .f32) (x : S1x19x1024x2048.Idx → ℝ) (hX : ∀ i, X i = ((x i : ℝ) : EReal)) (Y : IVec S1x19x1024x2048 32)
    (hY : ∀ i, Y i = BitVec.ofNat 32 (i 1).val) (U : FVec Ideal S_ .f32) (hU : U (Shape.Idx.first h_S_) = (⊥ : EReal))
    (V : IVec S_ 32) (hV : V (Shape.Idx.first h_S_) = 0#32) (h : Fin 1024) (w : Fin 2048) :
    (Host.argReduce (reducer_argmax_f32_i32 (F := Ideal)) X Y U V reducesTo_S1x19x1024x2048_S1x1024x2048_d1 h_S_ (ix3 0 h w)).2 = BitVec.ofNat 32 (iR (px x h.val w.val) 18) := by
  rw [Ideal.argReduce_eq_reduce2]
  exact reduce2_real X x hX Y hY U hU V hV h w

section Values
variable (X : FVec Ideal S1x19x1024x2048 .f32) (x : S1x19x1024x2048.Idx → ℝ) (hX : ∀ i, X i = ((x i : ℝ) : EReal))
include hX

/-- The reference's class of a pixel. -/
theorem rArg_real (h : Fin 1024) (w : Fin 2048) : rArg X (ix3 0 h w) = BitVec.ofNat 32 (iR (px x h.val w.val) 18) := by
  rw [rArg_def]
  exact argReduce_real X x hX _ (fun _ => rfl) _ init_bot _ rfl h w

/-- The class map at a pixel. -/
theorem rArg2_real (h : Fin 1024) (w : Fin 2048) : rArg2 X (ix2 h w) = BitVec.ofNat 32 (iR (px x h.val w.val) 18) := by
  refine Eq.trans ?_ (rArg_real X x hX h w)
  delta rArg2
  generalize rArg X = A
  refine (shapeCast_dropUnit_apply ![1024, 2048] A _ (ix2 h w)).trans (congrArg A ?_)
  funext a
  match a with
  | ⟨0, _⟩ => rfl
  | ⟨1, _⟩ => rfl
  | ⟨2, _⟩ => rfl

end Values

end Cert.ReferenceIdeal.Hand
end
-- ==== Proof.RefSoft.lean ====
/- The reference's loss over the reals. -/
module

public import proofs.«01_k».proof.Proof.RefClass

@[expose] public section

set_option maxRecDepth 16384

noncomputable section

namespace Cert.ReferenceIdeal.Hand

open Cert.ReferenceIdeal Cert.ReferenceIdeal.Gen Idealize.ShloMosaic Idealize.ShloMosaic.TcCoe Cert.Loss Finset

/-- The float word of negative infinity. -/
theorem ofBits_bot : Ideal.ofBits .f32 0xFF800000#32 = ⊥ := by simp [Ideal.ofBits, Ideal.ieee]

/-- The fold of the maximum over the classes is the running maximum. -/
theorem fold_max_real (r : ℕ → ℝ) : (Finset.univ : Finset (Fin 19)).fold max (⊥ : EReal) (fun k => ((r k.val : ℝ) : EReal)) = ((mR r 18 : ℝ) : EReal) := by
  apply le_antisymm
  · rw [Finset.fold_max_le]
    exact ⟨bot_le, fun k _ => EReal.coe_le_coe_iff.mpr (le_mR r 18 k.val (Nat.le_of_lt_succ k.isLt))⟩
  · rw [Finset.le_fold_max]
    exact .inr ⟨⟨iR r 18, Nat.lt_succ_of_le (iR_le r 18)⟩, Finset.mem_univ _, by rw [mR_eq]⟩

/-- A per-pixel array spread over the classes, at an index. -/
theorem spread_at (Y : FVec Ideal S1x1x1024x2048 .f32) (c : Fin 19) (h : Fin 1024) (w : Fin 2048) :
    broadcastInDim S1x19x1024x2048 ![0, 1, 2, 3] bcast_S1x1x1024x2048_S1x19x1024x2048_0_1_2_3 Y (ix4 0 c h w) = Y (ix4 0 0 h w) := by
  pointwise

/-- A per-pixel array with a class axis of size one, at an index. -/
theorem lead_at (Y : FVec Ideal S1x1024x2048 .f32) (h : Fin 1024) (w : Fin 2048) :
    rSpread Y (ix4 0 0 h w) = Y (ix3 0 h w) := by
  delta rSpread
  pointwise

/-- The reference's maximum over the classes, at a pixel. -/
theorem max_at (X : FVec Ideal S1x19x1024x2048 .f32) (U : FVec Ideal S_ .f32) (h : Fin 1024) (w : Fin 2048) :
    Host.reduce FloatOps.maximumf X U reducesTo_S1x19x1024x2048_S1x1024x2048_d1 h_S_ (ix3 0 h w)
      = (Finset.univ : Finset (Fin 19)).fold max (U (Shape.Idx.first h_S_)) fun k => X (ix4 0 k h w) := by
  rw [Ideal.maximumf_eq_max, Host.reduce_eq_fold, Shape.ReducesTo.fold_fiber_r4_a1]
  rfl

/-- The reference's sum over the classes, at a pixel. -/
theorem add_at (X : FVec Ideal S1x19x1024x2048 .f32) (U : FVec Ideal S_ .f32) (h : Fin 1024) (w : Fin 2048) :
    Host.reduceAdd X U reducesTo_S1x19x1024x2048_S1x1024x2048_d1 h_S_ (ix3 0 h w)
      = U (Shape.Idx.first h_S_) + ∑ k : Fin 19, X (ix4 0 k h w) := by
  rw [ValueIdx.hostReduceAdd_apply, Ideal.hostReduceAdd_r4_a1]
  rfl

/-- The shifted scores, in the operations the program names. -/
theorem rShift_def {F : FTy → Type} [FloatOps F] (X : FVec F S1x19x1024x2048 .f32) : rShift X =
  subf X (broadcastInDim S1x19x1024x2048 ![0, 1, 2, 3] bcast_S1x1x1024x2048_S1x19x1024x2048_0_1_2_3
    (rSpread (maximumf (broadcastInDim S1x1024x2048 ![] bcast_S_S1x1024x2048 (constant S_ .f32 0xFF800000#32))
      (Host.reduce FloatOps.maximumf X (constant S_ .f32 0xFF800000#32) reducesTo_S1x19x1024x2048_S1x1024x2048_d1 h_S_)))) := rfl
/-- The log-softmax, in the operations the program names. -/
theorem rLS_def {F : FTy → Type} [FloatOps F] (X : FVec F S1x19x1024x2048 .f32) : rLS X =
  subf (rShift X) (broadcastInDim S1x19x1024x2048 ![0, 1, 2, 3] bcast_S1x1x1024x2048_S1x19x1024x2048_0_1_2_3
    (Host.log (rSpread (Host.reduceAdd (Host.exp (rShift X)) (constant S_ .f32 0x00000000#32) reducesTo_S1x19x1024x2048_S1x1024x2048_d1 h_S_)))) := rfl

/-- A difference at an index. -/
theorem subf_at {s : Shape} (a b : FVec Ideal s .f32) (i : s.Idx) (u v : EReal) (ha : a i = u) (hb : b i = v) : subf a b i = u - v := by
  rw [← ha, ← hb]; rfl

/-- A maximum at an index. -/
theorem maximumf_at {s : Shape} (a b : FVec Ideal s .f32) (i : s.Idx) (u v : EReal) (ha : a i = u) (hb : b i = v) : maximumf a b i = max u v := by
  rw [← ha, ← hb]; rfl

/-- A logarithm at an index. -/
theorem hostLog_at {s : Shape} (a : FVec Ideal s .f32) (i : s.Idx) (u : EReal) (ha : a i = u) : Host.log a i = Ideal.log u := by
  rw [← ha]; rfl

section Values
variable (X : FVec Ideal S1x19x1024x2048 .f32) (x : S1x19x1024x2048.Idx → ℝ) (hX : ∀ i, X i = ((x i : ℝ) : EReal))
include hX

/-- The logits less their largest. -/
theorem rShift_real (c : Fin 19) (h : Fin 1024) (w : Fin 2048) :
    rShift X (ix4 0 c h w) = ((px x h.val w.val c.val - mR (px x h.val w.val) 18 : ℝ) : EReal) := by
  have e : rShift X (ix4 0 c h w) = X (ix4 0 c h w) - max (Ideal.ofBits .f32 0xFF800000#32)
      ((Finset.univ : Finset (Fin 19)).fold max (Ideal.ofBits .f32 0xFF800000#32) fun k => X (ix4 0 k h w)) := by
    rw [rShift_def]
    refine subf_at _ _ _ _ _ rfl ((spread_at _ c h w).trans ((lead_at _ h w).trans ?_))
    exact maximumf_at _ _ _ _ _ rfl (max_at X _ h w)
  have e2 : (fun k : Fin 19 => X (ix4 0 k h w)) = fun k => ((px x h.val w.val k.val : ℝ) : EReal) :=
    funext fun k => by rw [hX, px_at x]
  rw [e, e2, ofBits_bot, fold_max_real, hX, px_at x, max_eq_right bot_le, ← EReal.coe_sub]

/-- The log softmax. -/
theorem rLS_real (c : Fin 19) (h : Fin 1024) (w : Fin 2048) :
    rLS X (ix4 0 c h w) = ((px x h.val w.val c.val - mR (px x h.val w.val) 18
      - Real.log (∑ c ∈ range 19, Real.exp (px x h.val w.val c - mR (px x h.val w.val) 18)) : ℝ) : EReal) := by
  have e : rLS X (ix4 0 c h w) = rShift X (ix4 0 c h w) - Ideal.log (Ideal.ofBits .f32 0x00000000#32 + ∑ k : Fin 19, Ideal.exp (rShift X (ix4 0 k h w))) := by
    rw [rLS_def]
    refine subf_at _ _ _ _ _ rfl ((spread_at _ c h w).trans ?_)
    exact hostLog_at _ _ _ ((lead_at _ h w).trans (add_at _ _ h w))
  have e2 : ∀ k : Fin 19, Ideal.exp (rShift X (ix4 0 k h w)) = ((Real.exp (px x h.val w.val k.val - mR (px x h.val w.val) 18) : ℝ) : EReal) := fun k => by
    rw [rShift_real X x hX]; rfl
  have hp : 0 < ∑ c ∈ range 19, Real.exp (px x h.val w.val c - mR (px x h.val w.val) 18) :=
    Finset.sum_pos (fun _ _ => Real.exp_pos _) ⟨0, mem_range.mpr (by decide)⟩
  rw [e, Finset.sum_congr rfl fun k _ => e2 k, sum_fin_coe 19 fun k => Real.exp (px x h.val w.val k - mR (px x h.val w.val) 18),
    Ideal.ofBits_zero_f32, zero_add, rShift_real X x hX]
  have hl : Ideal.log ((∑ c ∈ range 19, Real.exp (px x h.val w.val c - mR (px x h.val w.val) 18) : ℝ) : EReal)
      = ((Real.log (∑ c ∈ range 19, Real.exp (px x h.val w.val c - mR (px x h.val w.val) 18)) : ℝ) : EReal) := by
    show (if _ ≤ (0 : ℝ) then (⊥ : EReal) else _) = _
    rw [if_neg (not_le.mpr hp)]
  rw [hl, ← EReal.coe_sub]

end Values

end Cert.ReferenceIdeal.Hand

end
-- ==== Proof.RefCount.lean ====
/- The reference's loss over the reals. -/
module

public import proofs.«01_k».proof.Proof.RefClass

@[expose] public section

set_option maxRecDepth 16384

noncomputable section

namespace Cert.ReferenceIdeal.Hand

open Cert.ReferenceIdeal Cert.ReferenceIdeal.Gen Idealize.ShloMosaic Idealize.ShloMosaic.TcCoe Cert.Loss Finset

/-! ### The counts -/

/-- A fold that adds one wherever a condition holds counts. -/
theorem fold_count {α : Type} (P : α → Prop) [DecidablePred P] (L : List α) (a : BitVec 32) :
    L.foldl (fun a n => if P n then a + 1#32 else a) a = a + BitVec.ofNat 32 (L.countP fun n => decide (P n)) := by
  induction L generalizing a with
  | nil => simp
  | cons n L ih =>
    rw [List.foldl_cons, ih, List.countP_cons]
    by_cases h : P n
    · simp only [h, if_true, decide_true]
      rw [BitVec.ofNat_add, BitVec.add_assoc, BitVec.add_comm 1#32]
    · simp [h]

/-- A count over all the numbers below `n` as a sum. -/
theorem countP_fin (n : ℕ) (P : Fin n → Prop) [DecidablePred P] :
    (((List.finRange n).countP fun k => decide (P k) : ℕ) : ℝ) = ∑ k : Fin n, if P k then 1 else 0 := by
  have e : (List.finRange n).countP (fun k => decide (P k)) = (Finset.univ.filter fun k : Fin n => P k).card := by
    rw [Finset.card_def, Finset.filter_val, ← Multiset.countP_eq_card_filter]
    rfl
  rw [e, Finset.card_filter, Nat.cast_sum]
  exact Finset.sum_congr rfl fun k _ => by split <;> simp

/-- Two folds whose steps agree. -/
theorem fold_congr {α β : Type} (f g : β → α → β) (L : List α) (a : β) (h : ∀ a n, f a n = g a n) : L.foldl f a = L.foldl g a := by
  have : f = g := funext fun a => funext fun n => h a n
  rw [this]

/-- The histogram's scatter. -/
abbrev sd : ScatterDims S19 S2097152x1 S2097152 := scatter_S19_S2097152x1_S2097152_n_0_0_1

/-- The scatter writes single elements. -/
theorem sd_window (u : S2097152.Idx) (a : Fin 1) : sd.window u a = 0 := by
  have : a = 0 := Subsingleton.elim _ _
  subst this
  rfl

/-- The scatter writes at the bin named by the index array. -/
theorem sd_start (u : S2097152.Idx) (B : IVec S2097152x1 32) (a : Fin 1) : sd.start u B a = (B (ix2 (u 0) 0)).toInt := by
  have : a = 0 := Subsingleton.elim _ _
  subst this
  refine (congrArg (fun z => (B z).toInt) ?_ : (B _).toInt = _)
  funext a
  apply Fin.ext
  match a with
  | ⟨0, _⟩ => rfl
  | ⟨1, _⟩ => rfl

/-- The scatter's condition: an update lands at class `k` when its word is `k`. -/
theorem lands (u : S2097152.Idx) (B : IVec S2097152x1 32) (k : Fin 19) :
    sd.resultIdx? u B = some (ix1 k) ↔ (B (ix2 (u 0) 0)).toInt = (k.val : ℤ) := by
  rw [Routing.resultIdx?_eq_some]
  constructor
  · intro q
    have := q 0
    rw [sd_window, sd_start] at this
    simpa using this
  · intro q a
    rw [sd_window, sd_start]
    have : a = 0 := Subsingleton.elim _ _
    subst this
    simpa using q

end Cert.ReferenceIdeal.Hand

end
-- ==== Proof.RefHist.lean ====
/- The reference's histogram and class weights over the reals. -/
module

public import proofs.«01_k».proof.Proof.RefCount
public import proofs.«01_k».proof.Proof.Words
public import Idealize.ShloMosaic.Lib.ValueIdxCore

@[expose] public section

set_option maxRecDepth 16384

noncomputable section

namespace Cert.ReferenceIdeal.Hand

open Cert.ReferenceIdeal Cert.ReferenceIdeal.Gen Idealize.ShloMosaic Idealize.ShloMosaic.TcCoe Cert.Loss Finset

/-- A number below 2^31 as a signed word. -/
theorem toInt_small (n : ℕ) (h : n < 2147483648) : (BitVec.ofNat 32 n).toInt = (n : ℤ) := by
  rw [BitVec.toInt_eq_toNat_of_lt (by rw [BitVec.toNat_ofNat]; omega), BitVec.toNat_ofNat]
  omega

/-- The clip and the wrap of negative indices leave a class as it is. -/
theorem clip_small (n : ℕ) (hn : n < 19) :
    Scalar.select (IntOp.cmpi .slt (IntOp.maxsi 0#32 (BitVec.ofNat 32 n)) 0#32) (IntOp.addi (IntOp.maxsi 0#32 (BitVec.ofNat 32 n)) 19#32) (IntOp.maxsi 0#32 (BitVec.ofNat 32 n))
      = BitVec.ofNat 32 n := by
  interval_cases n <;> rfl

/-- The wrap of negative indices leaves a class as it is. -/
theorem wrap_small (n : ℕ) (hn : n < 19) :
    Scalar.select (IntOp.cmpi .slt (BitVec.ofNat 32 n) 0#32) (IntOp.addi (BitVec.ofNat 32 n) 19#32) (BitVec.ofNat 32 n) = BitVec.ofNat 32 n := by
  interval_cases n <;> rfl

section Hist
variable (A : IVec S1024x2048 32) (I : ℕ → ℕ → ℕ) (hI : ∀ h w, I h w < 19)
  (hA : ∀ (h : Fin 1024) (w : Fin 2048), A (ix2 h w) = BitVec.ofNat 32 (I h.val w.val))
include hI hA

/-- The list of classes at a position is the class map at the matching pixel. -/
theorem rBins_at (u : S2097152.Idx) :
    rBins A u = A (Shape.reshapeEquiv shapeCasts_S1024x2048_S2097152 u) := by
  generalize hi : Shape.reshapeEquiv shapeCasts_S1024x2048_S2097152 u = i
  have e : A i = BitVec.ofNat 32 (I (i 0).val (i 1).val) := by
    rw [← hA (i 0) (i 1)]
    exact congrArg A (by funext a; match a with | ⟨0, _⟩ => rfl | ⟨1, _⟩ => rfl)
  have e2 : shapeCast S2097152 A shapeCasts_S1024x2048_S2097152 u = A i := congrArg A hi
  rw [e, ← clip_small _ (hI (i 0).val (i 1).val), ← e, ← e2]
  rfl

/-- How often a class occurs in the list is how many pixels have it. -/
theorem count_pixels (k : Fin 19) :
    (((List.finRange S2097152.numel).countP fun n => decide ((rBins A (S2097152.rowMajor.symm n)).toInt = (k.val : ℤ)) : ℕ) : ℝ) = cntR I k.val := by
  rw [countP_fin, Equiv.sum_comp S2097152.rowMajor.symm (fun u : S2097152.Idx => if (rBins A u).toInt = (k.val : ℤ) then (1 : ℝ) else 0)]
  have e : ∀ u : S2097152.Idx, (if (rBins A u).toInt = (k.val : ℤ) then (1 : ℝ) else 0)
      = (fun i : S1024x2048.Idx => if (A i).toInt = (k.val : ℤ) then (1 : ℝ) else 0) (Shape.reshapeEquiv shapeCasts_S1024x2048_S2097152 u) := fun u => by
    rw [rBins_at A I hI hA u]
  rw [Finset.sum_congr rfl fun u _ => e u, Equiv.sum_comp (Shape.reshapeEquiv shapeCasts_S1024x2048_S2097152) (fun i : S1024x2048.Idx => if (A i).toInt = (k.val : ℤ) then (1 : ℝ) else 0)]
  refine (sum_idx2 _).trans ?_
  unfold cntR
  rw [← Fin.sum_univ_eq_sum_range (fun h => ∑ w ∈ range 2048, if I h w = k.val then (1 : ℝ) else 0) 1024]
  refine Finset.sum_congr rfl fun h _ => ?_
  rw [← Fin.sum_univ_eq_sum_range (fun w => if I h.val w = k.val then (1 : ℝ) else 0) 2048]
  refine Finset.sum_congr rfl fun w _ => ?_
  rw [hA, toInt_small _ (by have := hI h.val w.val; omega)]
  simp only [Nat.cast_inj]

/-- The histogram. -/
theorem rHist_at (k : Fin 19) : (rHist (rBins A) (ix1 k)).toInt = (((List.finRange S2097152.numel).countP fun n => decide ((rBins A (S2097152.rowMajor.symm n)).toInt = (k.val : ℤ)) : ℕ) : ℤ) := by
  have e : rHist (rBins A) (ix1 k) = 0#32 + BitVec.ofNat 32 ((List.finRange S2097152.numel).countP fun n => decide ((rBins A (S2097152.rowMajor.symm n)).toInt = (k.val : ℤ))) := by
    rw [← fold_count]
    delta rHist
    generalize rBins A = b
    rw [Routing.scatter_at]
    refine fold_congr _ _ _ _ fun a n => ?_
    generalize S2097152.rowMajor.symm n = u
    have hb : broadcastInDim S2097152x1 ![0] bcast_S2097152_S2097152x1_0 b (ix2 (u 0) 0) = b u :=
      congrArg b (by funext a; match a with | ⟨0, _⟩ => rfl)
    have hl := lands u (broadcastInDim S2097152x1 ![0] bcast_S2097152_S2097152x1_0 b) k
    rw [hb] at hl
    by_cases q : (b u).toInt = (k.val : ℤ)
    · rw [if_pos q, if_pos (hl.mpr q)]; rfl
    · rw [if_neg q, if_neg (fun z => q (hl.mp z))]
  rw [e, BitVec.zero_add, toInt_small]
  have h1 := count_pixels A I hI hA k
  have h2 : cntR I k.val ≤ 2097152 := by
    rw [← sum_cntR I hI]
    exact Finset.single_le_sum (f := fun k => cntR I k) (fun k _ => cntR_nonneg I k) (mem_range.mpr k.isLt)
  rw [← h1] at h2
  have h3 : ((List.finRange S2097152.numel).countP fun n => decide ((rBins A (S2097152.rowMajor.symm n)).toInt = (k.val : ℤ))) ≤ 2097152 := by exact_mod_cast h2
  exact lt_of_le_of_lt h3 (by norm_num)

/-- The histogram as floats. -/
theorem rHistF_real (k : Fin 19) : sitofp (F := Ideal) .f32 (rHist (rBins A)) (ix1 k) = ((cntR I k.val : ℝ) : EReal) := by
  show (((rHist (rBins A) (ix1 k)).toInt : ℝ) : EReal) = _
  rw [rHist_at A I hI hA, ← count_pixels A I hI hA k]
  norm_cast

end Hist

/-- The class weights. -/
theorem rW_real (H : FVec Ideal S19 .f32) (I : ℕ → ℕ → ℕ) (hI : ∀ h w, I h w < 19) (hH : ∀ k : Fin 19, H (ix1 k) = ((cntR I k.val : ℝ) : EReal)) (k : Fin 19) :
    rW H (ix1 k) = ((wgtR pW qW (cntR I k.val) : ℝ) : EReal) := by
  have hs : Host.reduceAdd H (constant S_ .f32 0x00000000#32) reducesTo_S19_S_d0 h_S_ ix0 = ((2097152 : ℝ) : EReal) := by
    rw [ValueIdx.hostReduceAdd_apply, Ideal.hostReduceAdd_total _ (fun b => b.elim0), sum_idx1, Finset.sum_congr rfl fun k _ => hH k,
      sum_fin_coe 19 (fun k => cntR I k), sum_cntR I hI]
    show Ideal.ofBits .f32 0x00000000#32 + _ = _
    rw [Ideal.ofBits_zero_f32, zero_add]
  have e : rW H (ix1 k) = Ideal.div (Ideal.ofBits .f32 0x3F800000#32)
      (max (Ideal.pow (H (ix1 k)) (Ideal.ofBits .f32 0x3E4CCCCD#32) * Ideal.pow (Host.reduceAdd H (constant S_ .f32 0x00000000#32) reducesTo_S19_S_d0 h_S_ ix0) (Ideal.ofBits .f32 0x3F4CCCCD#32))
        (Ideal.ofBits .f32 0x3F800000#32)) := by
    rfl
  rw [e, hs, hH, word_p, word_q, word_1]
  exact weight_real _ _ _ rfl rfl

/-- The weight map. -/
theorem rWmap_real (W : FVec Ideal S19 .f32) (A : IVec S1024x2048 32) (I : ℕ → ℕ → ℕ) (hI : ∀ h w, I h w < 19)
    (hA : ∀ (h : Fin 1024) (w : Fin 2048), A (ix2 h w) = BitVec.ofNat 32 (I h.val w.val)) (h : Fin 1024) (w : Fin 2048) :
    rWmap W A (ix2 h w) = W (ix1 ⟨I h.val w.val, hI _ _⟩) := by
  have key : ∀ B : IVec S1024x2048x1 32, B (ix3 h w 0) = BitVec.ofNat 32 (I h.val w.val) →
      Host.gather gather_S19_S1024x2048x1_S1024x2048_n_0_n_n_0_2_1 W B (ix2 h w) = W (ix1 ⟨I h.val w.val, hI _ _⟩) := by
    intro B hB
    refine (ValueIdx.gather_take_apply (by decide) gather_S19_S1024x2048x1_S1024x2048_n_0_n_n_0_2_1_wf W B (ix2 h w)).trans ?_
    refine congrArg W ?_
    funext a
    apply Fin.ext
    match a with
    | ⟨0, _⟩ =>
      show min (B _).toInt.toNat (19 - 1) = I h.val w.val
      have e : B (ValueIdx.takeIdx (ix2 h w)) = BitVec.ofNat 32 (I h.val w.val) := by
        rw [← hB]
        exact congrArg B (by funext a; match a with | ⟨0, _⟩ => rfl | ⟨1, _⟩ => rfl | ⟨2, _⟩ => rfl)
      have := hI h.val w.val
      rw [e, toInt_small _ (by omega)]
      omega
  have hb : ∀ Z : IVec S1024x2048 32, broadcastInDim S1024x2048x1 ![0, 1] bcast_S1024x2048_S1024x2048x1_0_1 Z (ix3 h w 0) = Z (ix2 h w) := fun Z =>
    congrArg Z (by funext a; match a with | ⟨0, _⟩ => rfl | ⟨1, _⟩ => rfl)
  refine key _ ((hb _).trans ?_)
  refine Eq.trans ?_ (wrap_small _ (hI h.val w.val))
  rw [← hA]
  rfl

end Cert.ReferenceIdeal.Hand

end
-- ==== Proof.RefLoss.lean ====
/- The reference's loss over the reals. -/
module

public import proofs.«01_k».proof.Proof.RefSoft
public import proofs.«01_k».proof.Proof.RefHist

@[expose] public section

set_option maxRecDepth 16384

noncomputable section

namespace Cert.ReferenceIdeal.Hand

open Cert.ReferenceIdeal Cert.ReferenceIdeal.Gen Idealize.ShloMosaic Idealize.ShloMosaic.TcCoe Cert.Loss Finset

/-- Where the target is not the ignored value the mask is set. -/
theorem rMask_one (T : FVec Ideal S1x19x1024x2048 .f32) (i : S1x19x1024x2048.Idx) (h : T i ≠ ((-1 : ℝ) : EReal)) : rMask T i = 1#1 := by
  have e : rMask T i = BitVec.ofBool (decide ((T i : EReal) ≠ Ideal.ofBits .f32 0xBF800000#32)) := rfl
  rw [e, word_m1, decide_eq_true h]
  rfl

/-- A term of the loss, where the mask is set. -/
theorem rTerms_at (K : IVec S1x19x1024x2048 1) (L T : FVec Ideal S1x19x1024x2048 .f32) (W : FVec Ideal S19 .f32) (A : IVec S1024x2048 32)
    (c : Fin 19) (h : Fin 1024) (w : Fin 2048) (hK : K (ix4 0 c h w) = 1#1) :
    rTerms K L T (rWmap1 W A) (ix4 0 c h w) = -(L (ix4 0 c h w) : EReal) * T (ix4 0 c h w) * rWmap W A (ix2 h w) := by
  delta rTerms rWmap1
  generalize rWmap W A = M
  refine (if_pos hK : _ = _).trans ?_
  have hb : broadcastInDim S1x19x1024x2048 ![0, 1, 2, 3] bcast_S1x1x1024x2048_S1x19x1024x2048_0_1_2_3
        (broadcastInDim S1x1x1024x2048 ![1, 2, 3] bcast_S1x1024x2048_S1x1x1024x2048_1_2_3 (broadcastInDim S1x1024x2048 ![1, 2] bcast_S1024x2048_S1x1024x2048_1_2 M)) (ix4 0 c h w) = M (ix2 h w) :=
    congrArg M (by funext a; match a with | ⟨0, _⟩ => rfl | ⟨1, _⟩ => rfl)
  rw [← hb]
  rfl

/-- The mean of terms that are reals. -/
theorem rMean_real (Z : FVec Ideal S1x19x1024x2048 .f32) (g : ℕ → ℕ → ℕ → ℝ)
    (hZ : ∀ (c : Fin 19) (h : Fin 1024) (w : Fin 2048), Z (ix4 0 c h w) = ((g c.val h.val w.val : ℝ) : EReal)) (j : S_.Idx) :
    rMean Z j = (((∑ h ∈ range 1024, ∑ w ∈ range 2048, ∑ c ∈ range 19, g c h w) / 19 : ℝ) : EReal) := by
  have e : rMean Z j = Ideal.div (Host.reduceAdd Z (constant S_ .f32 0x00000000#32) reducesTo_S1x19x1024x2048_S_d0_1_2_3 h_S_ j) (Ideal.ofBits .f32 0x41980000#32) := rfl
  have hs : Host.reduceAdd Z (constant S_ .f32 0x00000000#32) reducesTo_S1x19x1024x2048_S_d0_1_2_3 h_S_ j
      = ((∑ h ∈ range 1024, ∑ w ∈ range 2048, ∑ c ∈ range 19, g c h w : ℝ) : EReal) := by
    rw [ValueIdx.hostReduceAdd_apply, Ideal.hostReduceAdd_total _ (fun b => b.elim0), sum_idx4, Fin.sum_univ_one]
    have h1 : ∀ (c : Fin 19) (h : Fin 1024), ∑ w : Fin 2048, Z (ix4 0 c h w) = ((∑ w ∈ range 2048, g c.val h.val w : ℝ) : EReal) := fun c h => by
      rw [Finset.sum_congr rfl fun w _ => hZ c h w, sum_fin_coe 2048 (fun w => g c.val h.val w)]
    have h2 : ∀ c : Fin 19, ∑ h : Fin 1024, ∑ w : Fin 2048, Z (ix4 0 c h w) = ((∑ h ∈ range 1024, ∑ w ∈ range 2048, g c.val h w : ℝ) : EReal) := fun c => by
      rw [Finset.sum_congr rfl fun h _ => h1 c h, sum_fin_coe 1024 (fun h => ∑ w ∈ range 2048, g c.val h w)]
    rw [Finset.sum_congr rfl fun c _ => h2 c, sum_fin_coe 19 (fun c => ∑ h ∈ range 1024, ∑ w ∈ range 2048, g c h w)]
    have h3 : ∑ c ∈ range 19, ∑ h ∈ range 1024, ∑ w ∈ range 2048, g c h w = ∑ h ∈ range 1024, ∑ w ∈ range 2048, ∑ c ∈ range 19, g c h w := by
      rw [Finset.sum_comm]
      exact Finset.sum_congr rfl fun h _ => Finset.sum_comm
    rw [h3]
    show Ideal.ofBits .f32 0x00000000#32 + _ = _
    rw [Ideal.ofBits_zero_f32, zero_add]
  rw [e, hs, word_19, div_real _ _ (by norm_num)]

/-- The reference's result is the loss over the reals. -/
theorem rOut_real (X T : FVec Ideal S1x19x1024x2048 .f32) (x t : S1x19x1024x2048.Idx → ℝ) (hX : ∀ i, X i = ((x i : ℝ) : EReal)) (hT : ∀ i, T i = ((t i : ℝ) : EReal))
    (hm : ∀ i, T i ≠ ((-1 : ℝ) : EReal)) (j : S_.Idx) :
    rOut X T j = ((lossR pW qW (fun h w => iR (px x h w) 18) (fun h w => sR (px x h w) (px t h w)) : ℝ) : EReal) := by
  have hI : ∀ h w, iR (px x h w) 18 < 19 := fun h w => Nat.lt_succ_of_le (iR_le _ _)
  have hA := rArg2_real X x hX
  delta rOut
  rw [rMean_real _ (fun c h w => -(px x h w c - mR (px x h w) 18 - Real.log (∑ c ∈ range 19, Real.exp (px x h w c - mR (px x h w) 18))) * px t h w c
      * wgtR pW qW (cntR (fun h w => iR (px x h w) 18) (iR (px x h w) 18))) ?_ j]
  · congr 1
    unfold lossR
    congr 1
    rw [← sum_weighted (fun h w => iR (px x h w) 18) (fun h w => sR (px x h w) (px t h w)) hI (fun k => wgtR pW qW (cntR (fun h w => iR (px x h w) 18) k))]
    exact Finset.sum_congr rfl fun h _ => Finset.sum_congr rfl fun w _ => sum_terms (px x h w) (px t h w) _
  · intro c h w
    rw [rTerms_at _ _ _ _ _ c h w (rMask_one T _ (hm _)), rLS_real X x hX c h w, hT, px_at t, rWmap_real _ _ (fun h w => iR (px x h w) 18) hI hA h w,
      rW_real _ (fun h w => iR (px x h w) 18) hI (rHistF_real _ (fun h w => iR (px x h w) 18) hI hA), ← EReal.coe_neg, ← EReal.coe_mul, ← EReal.coe_mul]

end Cert.ReferenceIdeal.Hand

end
-- ==== Proof.PreReal.lean ====
/- The precondition over the reals. -/
module
public import proofs.«01_k».proof.Pre_finite_and_none_ignored
public import proofs.«01_k».proof.Proof.Words
public import Idealize.ShloMosaic.Lib.ReduceAll
@[expose] public section
set_option maxRecDepth 16384
noncomputable section
namespace Cert.Pre_finite_and_none_ignored
open Idealize.ShloMosaic Cert.Loss Facts

/-- The float word of infinity. -/
theorem word_top : Ideal.ofBits .f32 0x7F800000#32 = (⊤ : EReal) := by
  simp [Ideal.ofBits, Ideal.ieee]

/-- An extended real of absolute value below infinity is a real. -/
theorem real_of_abs (x : EReal) (h : max x (-x) < ⊤) : ∃ r : ℝ, x = (r : EReal) := by
  induction x using EReal.rec with
  | bot => exact absurd h (by simp)
  | coe r => exact ⟨r, rfl⟩
  | top => exact absurd h (by simp)

variable [Facts]

/-- The condition on one pair of elements, at every index. -/
def good {F : FTy → Type} [FloatOps F] (X T : FVec F S1x19x1024x2048 .f32) : IVec S1x19x1024x2048 1 :=
  andi (andi (cmpf .olt (Host.absf X) (broadcastInDim S1x19x1024x2048 ![] bcast_S_S1x19x1024x2048 (constant S_ .f32 0x7F800000#32)))
      (cmpf .olt (Host.absf T) (broadcastInDim S1x19x1024x2048 ![] bcast_S_S1x19x1024x2048 (constant S_ .f32 0x7F800000#32))))
    (cmpf .une T (broadcastInDim S1x19x1024x2048 ![] bcast_S_S1x19x1024x2048 (constant S_ .f32 0xBF800000#32)))

/-- The precondition is the conjunction of the condition over all indices. -/
theorem fn_def {F : FTy → Type} [FloatOps F] (X T : FVec F S1x19x1024x2048 .f32) :
    fn X T = Host.reduce IntOp.andi (good X T) (constantI S_ 1 1#1) reducesTo_S1x19x1024x2048_S_d0_1_2_3 h_S_ := rfl

/-- The condition on one pair of elements. -/
theorem good_at (X T : FVec Ideal S1x19x1024x2048 .f32) (i : S1x19x1024x2048.Idx) :
    good X T i = IntOp.andi (IntOp.andi (BitVec.ofBool (decide (max (X i) (-X i) < Ideal.ofBits .f32 0x7F800000#32)))
      (BitVec.ofBool (decide (max (T i) (-T i) < Ideal.ofBits .f32 0x7F800000#32)))) (BitVec.ofBool (decide ((T i : EReal) ≠ Ideal.ofBits .f32 0xBF800000#32))) := rfl

/-- A decided proposition whose bit is set holds. -/
theorem of_bit (p : Prop) [Decidable p] (h : BitVec.ofBool (decide p) = 1#1) : p := by
  by_contra q
  rw [decide_eq_false q] at h
  exact absurd h (by decide)

/-- Under the precondition every score and target is a real and no target is the ignored value. -/
theorem reals (X T : FVec Ideal S1x19x1024x2048 .f32) (h : fn X T = fun _ => 1#1) (i : S1x19x1024x2048.Idx) :
    (∃ r : ℝ, X i = (r : EReal)) ∧ (∃ r : ℝ, T i = (r : EReal)) ∧ T i ≠ ((-1 : ℝ) : EReal) := by
  rw [fn_def] at h
  have : Subsingleton S_.Idx := ⟨fun a b => funext fun k => k.elim0⟩
  have g := Host.reduce_andi_all (good X T) _ _ _ (fun k => k.elim0) (congrFun h _) i
  rw [good_at, IntOp.andi_eq_one, IntOp.andi_eq_one, word_top, word_m1] at g
  exact ⟨real_of_abs _ (of_bit _ g.1.1), real_of_abs _ (of_bit _ g.1.2), of_bit _ g.2⟩

end Cert.Pre_finite_and_none_ignored
-- ==== Proof.Value.lean ====
/- The kernel and the reference give the same loss. -/
module
public import proofs.«01_k».proof.Defs
public import proofs.«01_k».proof.Proof.KernValue
public import proofs.«01_k».proof.Proof.RefLoss
public import proofs.«01_k».proof.Proof.RefRun
public import proofs.«01_k».proof.Proof.PreReal
public import proofs.«01_k».proof.Proof.Gen.Pre_finite_and_none_ignored
@[expose] public section
set_option maxRecDepth 16384
noncomputable section
namespace Cert.Proof
open Idealize.ShloMosaic Idealize.SL.Sem Cert.Loss
open Cert.ReferenceIdeal (S1x19x1024x2048 S_)
open Cert.ReferenceIdeal.Hand (px)

/-- The loss of one device's real scores and targets. -/
def lossOf (x t : S1x19x1024x2048.Idx → ℝ) : EReal :=
  ((lossR pW qW (fun h w => iR (px x h w) 18) (fun h w => sR (px x h w) (px t h w)) : ℝ) : EReal)

/-- A kernel run at real arguments ends with the loss over the reals. -/
theorem kernel_run (m : (ℓ : Loc Cert.KernelIdeal.nD Cert.KernelIdeal.τ Cert.KernelIdeal.sig) → Buf (Elt Ideal) ℓ) (g : Dev Cert.KernelIdeal.nD → PrngReg)
    (x t : Dev Cert.KernelIdeal.nD → S1x19x1024x2048.Idx → ℝ)
    (hX : ∀ c i, (m ((c.tc : Thread Cert.KernelIdeal.nD Cert.KernelIdeal.τ).loc Cert.KernelIdeal.main_arg0) : Vec Ideal S1x19x1024x2048 .f32) i = ((x c i : ℝ) : EReal))
    (hT : ∀ c i, (m ((c.tc : Thread Cert.KernelIdeal.nD Cert.KernelIdeal.τ).loc Cert.KernelIdeal.main_arg1) : Vec Ideal S1x19x1024x2048 .f32) i = ((t c i : ℝ) : EReal)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      (r.2.mem ((c.tc : Thread Cert.KernelIdeal.nD Cert.KernelIdeal.τ).loc Cert.KernelIdeal.main_v0) : Vec Ideal S_ .f32) = (fun _ => lossOf (x c) (t c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  refine (θ_run Cert.KernelIdeal.defs _ _).mono (fun r h c => ⟨(h c).1.trans ?_, (h c).2⟩) (Cert.KernelIdeal.Gen.run_value (F := Ideal) m g)
  funext _
  exact Cert.KernelIdeal.Gen.last_real m c (x c) (t c) (hX c) (hT c) _

/-- A reference run at real arguments, no target the ignored value, ends with the loss over the reals. -/
theorem reference_run (m : (ℓ : Loc Cert.ReferenceIdeal.nD Cert.ReferenceIdeal.τ Cert.ReferenceIdeal.sig) → Buf (Elt Ideal) ℓ) (g : Dev Cert.ReferenceIdeal.nD → PrngReg)
    (x t : Dev Cert.ReferenceIdeal.nD → S1x19x1024x2048.Idx → ℝ)
    (hX : ∀ (c : Dev Cert.ReferenceIdeal.nD) i, (m ((c.tc : Thread Cert.ReferenceIdeal.nD Cert.ReferenceIdeal.τ).loc Cert.ReferenceIdeal.main_arg0) : Vec Ideal S1x19x1024x2048 .f32) i = ((x c i : ℝ) : EReal))
    (hT : ∀ (c : Dev Cert.ReferenceIdeal.nD) i, (m ((c.tc : Thread Cert.ReferenceIdeal.nD Cert.ReferenceIdeal.τ).loc Cert.ReferenceIdeal.main_arg1) : Vec Ideal S1x19x1024x2048 .f32) i = ((t c i : ℝ) : EReal))
    (hN : ∀ (c : Dev Cert.ReferenceIdeal.nD) i, (m ((c.tc : Thread Cert.ReferenceIdeal.nD Cert.ReferenceIdeal.τ).loc Cert.ReferenceIdeal.main_arg1) : Vec Ideal S1x19x1024x2048 .f32) i ≠ ((-1 : ℝ) : EReal)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      (r.2.mem ((c.tc : Thread Cert.ReferenceIdeal.nD Cert.ReferenceIdeal.τ).loc Cert.ReferenceIdeal.main_v42) : Vec Ideal S_ .f32) = (fun _ => lossOf (x c) (t c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  refine (θ_run Cert.ReferenceIdeal.defs _ _).mono (fun r h c => ⟨(h c).1.trans ?_, (h c).2⟩) (Cert.ReferenceIdeal.Hand.run (F := Ideal) m g)
  funext j
  exact Cert.ReferenceIdeal.Hand.rOut_real _ _ (x c) (t c) (hX c) (hT c) (hN c) j

/-- At finite arguments, no target the ignored value, both programs end with the same loss. -/
theorem same_loss : Cert.algebraic_KernelIdeal_ReferenceIdeal_pre_finite_and_none_ignored
    (hKernelIdeal := Cert.KernelIdeal.Gen.facts) (hReferenceIdeal := Cert.ReferenceIdeal.Gen.facts)
    (hPre_finite_and_none_ignored := Cert.Pre_finite_and_none_ignored.Gen.facts) := by
  intro m g m' g' hP hA
  have hR := fun c i => @Cert.Pre_finite_and_none_ignored.reals Cert.Pre_finite_and_none_ignored.Gen.facts _ _ (hP c) i
  choose x hX using fun c i => (hR c i).1
  choose t hT using fun c i => (hR c i).2.1
  refine ⟨fun c => (fun _ => lossOf (x c) (t c) : Vec Ideal S_ .f32), kernel_run m g x t hX hT, reference_run m' g' x t ?_ ?_ ?_⟩
  · intro c i
    rw [(hA c).1]; exact hX c i
  · intro c i
    rw [(hA c).2]; exact hT c i
  · intro c i
    rw [(hA c).2]; exact (hR c i).2.2

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_none_ignored
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames of the three programs, the idealized kernel rewriting nothing, and the loss of the kernel equal to the
    reference's. -/
theorem claim : Cert.Claim :=
  ⟨Cert.Kernel.Gen.facts, Cert.KernelIdeal.Gen.facts, Cert.ReferenceIdeal.Gen.facts, Cert.Pre_finite_and_none_ignored.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Hand.frame m ρ,
    fun m ρ _ => Cert.ReferenceIdeal.Hand.frame m ρ, trivial, same_loss⟩

end Cert.Proof

end
